-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![8192, 512]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x512 : Shape := ⟨2, ![512, 512]⟩
abbrev S2 : Shape := ⟨1, ![2]⟩
abbrev S6 : Shape := ⟨1, ![6]⟩
abbrev S_ : Shape := ⟨0, ![]⟩
abbrev S512x256 : Shape := ⟨2, ![512, 256]⟩
abbrev S1 : Shape := ⟨1, ![1]⟩

abbrev nBuf : Space → Nat
  | .hbm => 2
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_10 : BitVec 32 := 8#32
  let v20 : BitVec 32 := Scalar.muli v17 c8_i32_10
  let v21 : BitVec 32 := Scalar.addi c0_i32 v20
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v22 : BitVec 32 := Scalar.muli v5 c4_i32_11
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v24 : BitVec 32 := Scalar.muli v8 c1_i32_12
  let v25 : BitVec 32 := Scalar.addi v23 v24
  v25.toNat
def k0_dev2 (d0 : Dev nD) : Nat :=
  let c0_i32_15 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_14 : BitVec 32 := 8#32
  let v26 : BitVec 32 := Scalar.muli v2 c8_i32_14
  let v27 : BitVec 32 := Scalar.addi c0_i32_15 v26
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_16 : BitVec 32 := 4#32
  let v28 : BitVec 32 := Scalar.muli v18 c4_i32_16
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v30 : BitVec 32 := Scalar.muli v8 c1_i32_17
  let v31 : BitVec 32 := Scalar.addi v29 v30
  v31.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v32 : BitVec 1 := Scalar.cmpi .slt v8 c3_i32
  let v33 : BitVec 32 := Scalar.extui v32
  let c0_i32_18 : BitVec 32 := 0#32
  let v34 : BitVec 1 := Scalar.cmpi .ne v33 c0_i32_18
  v34

def k0_dev3 (d0 : Dev nD) : Nat :=
  let c0_i32_179 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_178 : BitVec 32 := 8#32
  let v238 : BitVec 32 := Scalar.muli v2 c8_i32_178
  let v239 : BitVec 32 := Scalar.addi c0_i32_179 v238
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_180 : BitVec 32 := 4#32
  let v240 : BitVec 32 := Scalar.muli v5 c4_i32_180
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v237 : BitVec 32 := Scalar.addi v8 c1_i32_176
  let c1_i32_181 : BitVec 32 := 1#32
  let v242 : BitVec 32 := Scalar.muli v237 c1_i32_181
  let v243 : BitVec 32 := Scalar.addi v241 v242
  v243.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_19 : BitVec 32 := 0#32
  let v35 : BitVec 1 := Scalar.cmpi .sgt v8 c0_i32_19
  let v36 : BitVec 32 := Scalar.extui v35
  let c0_i32_20 : BitVec 32 := 0#32
  let v37 : BitVec 1 := Scalar.cmpi .ne v36 c0_i32_20
  v37

def k0_dev4 (d0 : Dev nD) : Nat :=
  let c0_i32_179 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_178 : BitVec 32 := 8#32
  let v238 : BitVec 32 := Scalar.muli v2 c8_i32_178
  let v239 : BitVec 32 := Scalar.addi c0_i32_179 v238
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_180 : BitVec 32 := 4#32
  let v240 : BitVec 32 := Scalar.muli v5 c4_i32_180
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v237 : BitVec 32 := Scalar.subi v8 c1_i32_176
  let c1_i32_181 : BitVec 32 := 1#32
  let v242 : BitVec 32 := Scalar.muli v237 c1_i32_181
  let v243 : BitVec 32 := Scalar.addi v241 v242
  v243.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v51 : BitVec 1 := Scalar.cmpi .sle v8 c1_i32_32
  let v52 : BitVec 32 := Scalar.extui v51
  let c0_i32_33 : BitVec 32 := 0#32
  let v53 : BitVec 1 := Scalar.cmpi .ne v52 c0_i32_33
  v53

def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v237 : BitVec 1 := Scalar.cmpi .eq v8 c0_i32_176
  let v238 : BitVec 32 := Scalar.extui v237
  let c0_i32_177 : BitVec 32 := 0#32
  let v239 : BitVec 1 := Scalar.cmpi .ne v238 c0_i32_177
  v239

def k0_off1 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v255 : Index := Scalar.indexCast v44
  let c0 : Index := 0#32
  ![v255.toNat, 0]
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_178 : BitVec 32 := 0#32
  let v240 : BitVec 1 := Scalar.cmpi .sgt v8 c0_i32_178
  let v241 : BitVec 32 := Scalar.extui v240
  let c0_i32_179 : BitVec 32 := 0#32
  let v242 : BitVec 1 := Scalar.cmpi .ne v241 c0_i32_179
  v242

def k0_off2 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v267 : Index := Scalar.indexCast v44
  let c0_200 : Index := 0#32
  ![v267.toNat, 0]
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_180 : BitVec 32 := 3#32
  let v243 : BitVec 1 := Scalar.cmpi .slt v8 c3_i32_180
  let v244 : BitVec 32 := Scalar.extui v243
  let c0_i32_181 : BitVec 32 := 0#32
  let v245 : BitVec 1 := Scalar.cmpi .ne v244 c0_i32_181
  v245

def k0_dev5 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v256 : BitVec 32 := Scalar.muli v2 c8_i32_191
  let v257 : BitVec 32 := Scalar.addi c0_i32_192 v256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v258 : BitVec 32 := Scalar.muli v5 c4_i32_193
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v255 : BitVec 32 := Scalar.addi v8 c1_i32_188
  let c1_i32_194 : BitVec 32 := 1#32
  let v260 : BitVec 32 := Scalar.muli v255 c1_i32_194
  let v261 : BitVec 32 := Scalar.addi v259 v260
  v261.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_182 : BitVec 32 := 3#32
  let v246 : BitVec 1 := Scalar.cmpi .eq v8 c3_i32_182
  let v247 : BitVec 32 := Scalar.extui v246
  let c0_i32_183 : BitVec 32 := 0#32
  let v248 : BitVec 1 := Scalar.cmpi .ne v247 c0_i32_183
  v248

def k0_off3 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v255 : Index := Scalar.indexCast v44
  let c0 : Index := 0#32
  ![v255.toNat, 0]
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_184 : BitVec 32 := 3#32
  let v249 : BitVec 1 := Scalar.cmpi .slt v8 c3_i32_184
  let v250 : BitVec 32 := Scalar.extui v249
  let c0_i32_185 : BitVec 32 := 0#32
  let v251 : BitVec 1 := Scalar.cmpi .ne v250 c0_i32_185
  v251

def k0_off4 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v267 : Index := Scalar.indexCast v44
  let c0_200 : Index := 0#32
  ![v267.toNat, 0]
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_186 : BitVec 32 := 0#32
  let v252 : BitVec 1 := Scalar.cmpi .sgt v8 c0_i32_186
  let v253 : BitVec 32 := Scalar.extui v252
  let c0_i32_187 : BitVec 32 := 0#32
  let v254 : BitVec 1 := Scalar.cmpi .ne v253 c0_i32_187
  v254

def k0_dev6 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v256 : BitVec 32 := Scalar.muli v2 c8_i32_191
  let v257 : BitVec 32 := Scalar.addi c0_i32_192 v256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v258 : BitVec 32 := Scalar.muli v5 c4_i32_193
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v255 : BitVec 32 := Scalar.subi v8 c1_i32_188
  let c1_i32_194 : BitVec 32 := 1#32
  let v260 : BitVec 32 := Scalar.muli v255 c1_i32_194
  let v261 : BitVec 32 := Scalar.addi v259 v260
  v261.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_34 : BitVec 32 := 2#32
  let v54 : BitVec 1 := Scalar.cmpi .sge v8 c2_i32_34
  let v55 : BitVec 32 := Scalar.extui v54
  let c0_i32_35 : BitVec 32 := 0#32
  let v56 : BitVec 1 := Scalar.cmpi .ne v55 c0_i32_35
  v56

def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_176 : BitVec 32 := 3#32
  let v237 : BitVec 1 := Scalar.cmpi .eq v8 c3_i32_176
  let v238 : BitVec 32 := Scalar.extui v237
  let c0_i32_177 : BitVec 32 := 0#32
  let v239 : BitVec 1 := Scalar.cmpi .ne v238 c0_i32_177
  v239

def k0_off5 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v255 : Index := Scalar.indexCast v44
  let c0 : Index := 0#32
  ![v255.toNat, 0]
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_178 : BitVec 32 := 3#32
  let v240 : BitVec 1 := Scalar.cmpi .slt v8 c3_i32_178
  let v241 : BitVec 32 := Scalar.extui v240
  let c0_i32_179 : BitVec 32 := 0#32
  let v242 : BitVec 1 := Scalar.cmpi .ne v241 c0_i32_179
  v242

def k0_off6 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v267 : Index := Scalar.indexCast v44
  let c0_200 : Index := 0#32
  ![v267.toNat, 0]
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_180 : BitVec 32 := 0#32
  let v243 : BitVec 1 := Scalar.cmpi .sgt v8 c0_i32_180
  let v244 : BitVec 32 := Scalar.extui v243
  let c0_i32_181 : BitVec 32 := 0#32
  let v245 : BitVec 1 := Scalar.cmpi .ne v244 c0_i32_181
  v245

def k0_dev7 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v256 : BitVec 32 := Scalar.muli v2 c8_i32_191
  let v257 : BitVec 32 := Scalar.addi c0_i32_192 v256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v258 : BitVec 32 := Scalar.muli v5 c4_i32_193
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v255 : BitVec 32 := Scalar.subi v8 c1_i32_188
  let c1_i32_194 : BitVec 32 := 1#32
  let v260 : BitVec 32 := Scalar.muli v255 c1_i32_194
  let v261 : BitVec 32 := Scalar.addi v259 v260
  v261.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_182 : BitVec 32 := 0#32
  let v246 : BitVec 1 := Scalar.cmpi .eq v8 c0_i32_182
  let v247 : BitVec 32 := Scalar.extui v246
  let c0_i32_183 : BitVec 32 := 0#32
  let v248 : BitVec 1 := Scalar.cmpi .ne v247 c0_i32_183
  v248

def k0_off7 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v255 : Index := Scalar.indexCast v44
  let c0 : Index := 0#32
  ![v255.toNat, 0]
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_184 : BitVec 32 := 0#32
  let v249 : BitVec 1 := Scalar.cmpi .sgt v8 c0_i32_184
  let v250 : BitVec 32 := Scalar.extui v249
  let c0_i32_185 : BitVec 32 := 0#32
  let v251 : BitVec 1 := Scalar.cmpi .ne v250 c0_i32_185
  v251

def k0_off8 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v267 : Index := Scalar.indexCast v44
  let c0_200 : Index := 0#32
  ![v267.toNat, 0]
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_186 : BitVec 32 := 3#32
  let v252 : BitVec 1 := Scalar.cmpi .slt v8 c3_i32_186
  let v253 : BitVec 32 := Scalar.extui v252
  let c0_i32_187 : BitVec 32 := 0#32
  let v254 : BitVec 1 := Scalar.cmpi .ne v253 c0_i32_187
  v254

def k0_dev8 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v256 : BitVec 32 := Scalar.muli v2 c8_i32_191
  let v257 : BitVec 32 := Scalar.addi c0_i32_192 v256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v258 : BitVec 32 := Scalar.muli v5 c4_i32_193
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v255 : BitVec 32 := Scalar.addi v8 c1_i32_188
  let c1_i32_194 : BitVec 32 := 1#32
  let v260 : BitVec 32 := Scalar.muli v255 c1_i32_194
  let v261 : BitVec 32 := Scalar.addi v259 v260
  v261.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_36 : BitVec 32 := 3#32
  let v57 : BitVec 1 := Scalar.cmpi .slt v8 c3_i32_36
  let v58 : BitVec 32 := Scalar.extui v57
  let c0_i32_37 : BitVec 32 := 0#32
  let v59 : BitVec 1 := Scalar.cmpi .ne v58 c0_i32_37
  v59

def k0_off9 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v240 : Index := Scalar.indexCast v44
  let c0_179 : Index := 0#32
  ![v240.toNat, 0]
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_38 : BitVec 32 := 3#32
  let v60 : BitVec 1 := Scalar.cmpi .eq v8 c3_i32_38
  let v61 : BitVec 32 := Scalar.extui v60
  let c0_i32_39 : BitVec 32 := 0#32
  let v62 : BitVec 1 := Scalar.cmpi .ne v61 c0_i32_39
  v62

def k0_off10 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v238 : Index := Scalar.indexCast v44
  let c0_177 : Index := 0#32
  ![v238.toNat, 0]
def k0_off11 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32_26 : BitVec 32 := 512#32
  let v45 : BitVec 32 := Scalar.muli v10 c512_i32_26
  let c0_i32_46 : BitVec 32 := 0#32
  ![v45.toNat, 0]
def k0_dev9 (d0 : Dev nD) : Nat :=
  let c0_i32_43 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_42 : BitVec 32 := 8#32
  let v63 : BitVec 32 := Scalar.muli v17 c8_i32_42
  let v64 : BitVec 32 := Scalar.addi c0_i32_43 v63
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_44 : BitVec 32 := 4#32
  let v65 : BitVec 32 := Scalar.muli v5 c4_i32_44
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v67 : BitVec 32 := Scalar.muli v8 c1_i32_45
  let v68 : BitVec 32 := Scalar.addi v66 v67
  v68.toNat
def k0_dev10 (d0 : Dev nD) : Nat :=
  let c0_i32_51 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_50 : BitVec 32 := 8#32
  let v75 : BitVec 32 := Scalar.muli v2 c8_i32_50
  let v76 : BitVec 32 := Scalar.addi c0_i32_51 v75
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_52 : BitVec 32 := 4#32
  let v77 : BitVec 32 := Scalar.muli v18 c4_i32_52
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v79 : BitVec 32 := Scalar.muli v8 c1_i32_53
  let v80 : BitVec 32 := Scalar.addi v78 v79
  v80.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v87 : BitVec 1 := Scalar.cmpi .sle v8 c1_i32_56
  let v88 : BitVec 32 := Scalar.extui v87
  let c0_i32_57 : BitVec 32 := 0#32
  let v89 : BitVec 1 := Scalar.cmpi .ne v88 c0_i32_57
  v89

def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v237 : BitVec 1 := Scalar.cmpi .eq v8 c0_i32_176
  let v238 : BitVec 32 := Scalar.extui v237
  let c0_i32_177 : BitVec 32 := 0#32
  let v239 : BitVec 1 := Scalar.cmpi .ne v238 c0_i32_177
  v239

def k0_off12 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v255 : Index := Scalar.indexCast v44
  let c256 : Index := 256#32
  ![v255.toNat, 256]
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_178 : BitVec 32 := 0#32
  let v240 : BitVec 1 := Scalar.cmpi .sgt v8 c0_i32_178
  let v241 : BitVec 32 := Scalar.extui v240
  let c0_i32_179 : BitVec 32 := 0#32
  let v242 : BitVec 1 := Scalar.cmpi .ne v241 c0_i32_179
  v242

def k0_off13 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v267 : Index := Scalar.indexCast v44
  let c256_199 : Index := 256#32
  ![v267.toNat, 256]
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_180 : BitVec 32 := 3#32
  let v243 : BitVec 1 := Scalar.cmpi .slt v8 c3_i32_180
  let v244 : BitVec 32 := Scalar.extui v243
  let c0_i32_181 : BitVec 32 := 0#32
  let v245 : BitVec 1 := Scalar.cmpi .ne v244 c0_i32_181
  v245

def k0_dev11 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v256 : BitVec 32 := Scalar.muli v2 c8_i32_191
  let v257 : BitVec 32 := Scalar.addi c0_i32_192 v256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v258 : BitVec 32 := Scalar.muli v5 c4_i32_193
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v255 : BitVec 32 := Scalar.addi v8 c1_i32_188
  let c1_i32_194 : BitVec 32 := 1#32
  let v260 : BitVec 32 := Scalar.muli v255 c1_i32_194
  let v261 : BitVec 32 := Scalar.addi v259 v260
  v261.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_182 : BitVec 32 := 3#32
  let v246 : BitVec 1 := Scalar.cmpi .eq v8 c3_i32_182
  let v247 : BitVec 32 := Scalar.extui v246
  let c0_i32_183 : BitVec 32 := 0#32
  let v248 : BitVec 1 := Scalar.cmpi .ne v247 c0_i32_183
  v248

def k0_off14 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v255 : Index := Scalar.indexCast v44
  let c256 : Index := 256#32
  ![v255.toNat, 256]
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_184 : BitVec 32 := 3#32
  let v249 : BitVec 1 := Scalar.cmpi .slt v8 c3_i32_184
  let v250 : BitVec 32 := Scalar.extui v249
  let c0_i32_185 : BitVec 32 := 0#32
  let v251 : BitVec 1 := Scalar.cmpi .ne v250 c0_i32_185
  v251

def k0_off15 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v267 : Index := Scalar.indexCast v44
  let c256_199 : Index := 256#32
  ![v267.toNat, 256]
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_186 : BitVec 32 := 0#32
  let v252 : BitVec 1 := Scalar.cmpi .sgt v8 c0_i32_186
  let v253 : BitVec 32 := Scalar.extui v252
  let c0_i32_187 : BitVec 32 := 0#32
  let v254 : BitVec 1 := Scalar.cmpi .ne v253 c0_i32_187
  v254

def k0_dev12 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v256 : BitVec 32 := Scalar.muli v2 c8_i32_191
  let v257 : BitVec 32 := Scalar.addi c0_i32_192 v256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v258 : BitVec 32 := Scalar.muli v5 c4_i32_193
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v255 : BitVec 32 := Scalar.subi v8 c1_i32_188
  let c1_i32_194 : BitVec 32 := 1#32
  let v260 : BitVec 32 := Scalar.muli v255 c1_i32_194
  let v261 : BitVec 32 := Scalar.addi v259 v260
  v261.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_58 : BitVec 32 := 2#32
  let v90 : BitVec 1 := Scalar.cmpi .sge v8 c2_i32_58
  let v91 : BitVec 32 := Scalar.extui v90
  let c0_i32_59 : BitVec 32 := 0#32
  let v92 : BitVec 1 := Scalar.cmpi .ne v91 c0_i32_59
  v92

def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_176 : BitVec 32 := 3#32
  let v237 : BitVec 1 := Scalar.cmpi .eq v8 c3_i32_176
  let v238 : BitVec 32 := Scalar.extui v237
  let c0_i32_177 : BitVec 32 := 0#32
  let v239 : BitVec 1 := Scalar.cmpi .ne v238 c0_i32_177
  v239

def k0_off16 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v255 : Index := Scalar.indexCast v44
  let c256 : Index := 256#32
  ![v255.toNat, 256]
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_178 : BitVec 32 := 3#32
  let v240 : BitVec 1 := Scalar.cmpi .slt v8 c3_i32_178
  let v241 : BitVec 32 := Scalar.extui v240
  let c0_i32_179 : BitVec 32 := 0#32
  let v242 : BitVec 1 := Scalar.cmpi .ne v241 c0_i32_179
  v242

def k0_off17 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v267 : Index := Scalar.indexCast v44
  let c256_199 : Index := 256#32
  ![v267.toNat, 256]
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_180 : BitVec 32 := 0#32
  let v243 : BitVec 1 := Scalar.cmpi .sgt v8 c0_i32_180
  let v244 : BitVec 32 := Scalar.extui v243
  let c0_i32_181 : BitVec 32 := 0#32
  let v245 : BitVec 1 := Scalar.cmpi .ne v244 c0_i32_181
  v245

def k0_dev13 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v256 : BitVec 32 := Scalar.muli v2 c8_i32_191
  let v257 : BitVec 32 := Scalar.addi c0_i32_192 v256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v258 : BitVec 32 := Scalar.muli v5 c4_i32_193
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v255 : BitVec 32 := Scalar.subi v8 c1_i32_188
  let c1_i32_194 : BitVec 32 := 1#32
  let v260 : BitVec 32 := Scalar.muli v255 c1_i32_194
  let v261 : BitVec 32 := Scalar.addi v259 v260
  v261.toNat
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_182 : BitVec 32 := 0#32
  let v246 : BitVec 1 := Scalar.cmpi .eq v8 c0_i32_182
  let v247 : BitVec 32 := Scalar.extui v246
  let c0_i32_183 : BitVec 32 := 0#32
  let v248 : BitVec 1 := Scalar.cmpi .ne v247 c0_i32_183
  v248

def k0_off18 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v255 : Index := Scalar.indexCast v44
  let c256 : Index := 256#32
  ![v255.toNat, 256]
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_184 : BitVec 32 := 0#32
  let v249 : BitVec 1 := Scalar.cmpi .sgt v8 c0_i32_184
  let v250 : BitVec 32 := Scalar.extui v249
  let c0_i32_185 : BitVec 32 := 0#32
  let v251 : BitVec 1 := Scalar.cmpi .ne v250 c0_i32_185
  v251

def k0_off19 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v267 : Index := Scalar.indexCast v44
  let c256_199 : Index := 256#32
  ![v267.toNat, 256]
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_186 : BitVec 32 := 3#32
  let v252 : BitVec 1 := Scalar.cmpi .slt v8 c3_i32_186
  let v253 : BitVec 32 := Scalar.extui v252
  let c0_i32_187 : BitVec 32 := 0#32
  let v254 : BitVec 1 := Scalar.cmpi .ne v253 c0_i32_187
  v254

def k0_dev14 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v256 : BitVec 32 := Scalar.muli v2 c8_i32_191
  let v257 : BitVec 32 := Scalar.addi c0_i32_192 v256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v258 : BitVec 32 := Scalar.muli v5 c4_i32_193
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v255 : BitVec 32 := Scalar.addi v8 c1_i32_188
  let c1_i32_194 : BitVec 32 := 1#32
  let v260 : BitVec 32 := Scalar.muli v255 c1_i32_194
  let v261 : BitVec 32 := Scalar.addi v259 v260
  v261.toNat
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_60 : BitVec 32 := 3#32
  let v93 : BitVec 1 := Scalar.cmpi .slt v8 c3_i32_60
  let v94 : BitVec 32 := Scalar.extui v93
  let c0_i32_61 : BitVec 32 := 0#32
  let v95 : BitVec 1 := Scalar.cmpi .ne v94 c0_i32_61
  v95

def k0_off20 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v240 : Index := Scalar.indexCast v44
  let c256_178 : Index := 256#32
  ![v240.toNat, 256]
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_62 : BitVec 32 := 3#32
  let v96 : BitVec 1 := Scalar.cmpi .eq v8 c3_i32_62
  let v97 : BitVec 32 := Scalar.extui v96
  let c0_i32_63 : BitVec 32 := 0#32
  let v98 : BitVec 1 := Scalar.cmpi .ne v97 c0_i32_63
  v98

def k0_off21 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v44 : BitVec 32 := Scalar.muli v10 c512_i32
  let v238 : Index := Scalar.indexCast v44
  let c256_176 : Index := 256#32
  ![v238.toNat, 256]
def k0_off22 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32_27 : BitVec 32 := 512#32
  let v46 : BitVec 32 := Scalar.muli v10 c512_i32_27
  let c256_i32 : BitVec 32 := 256#32
  ![v46.toNat, 256]
def k0_dev15 (d0 : Dev nD) : Nat :=
  let c0_i32_67 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_66 : BitVec 32 := 8#32
  let v99 : BitVec 32 := Scalar.muli v2 c8_i32_66
  let v100 : BitVec 32 := Scalar.addi c0_i32_67 v99
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_68 : BitVec 32 := 4#32
  let v101 : BitVec 32 := Scalar.muli v18 c4_i32_68
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v103 : BitVec 32 := Scalar.muli v8 c1_i32_69
  let v104 : BitVec 32 := Scalar.addi v102 v103
  v104.toNat
def k0_dev16 (d0 : Dev nD) : Nat :=
  let c0_i32_74 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_73 : BitVec 32 := 8#32
  let v111 : BitVec 32 := Scalar.muli v17 c8_i32_73
  let v112 : BitVec 32 := Scalar.addi c0_i32_74 v111
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_75 : BitVec 32 := 4#32
  let v113 : BitVec 32 := Scalar.muli v5 c4_i32_75
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v115 : BitVec 32 := Scalar.muli v8 c1_i32_76
  let v116 : BitVec 32 := Scalar.addi v114 v115
  v116.toNat
def k0_off23 (d0 : Dev nD) : Fin 2 → Nat :=
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c512_i32_29 : BitVec 32 := 512#32
  let v48 : BitVec 32 := Scalar.muli v13 c512_i32_29
  let c0_i32_93 : BitVec 32 := 0#32
  ![v48.toNat, 0]
def k0_dev17 (d0 : Dev nD) : Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_89 : BitVec 32 := 8#32
  let v133 : BitVec 32 := Scalar.muli v2 c8_i32_89
  let v134 : BitVec 32 := Scalar.addi c0_i32_90 v133
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let c4_i32_91 : BitVec 32 := 4#32
  let v135 : BitVec 32 := Scalar.muli v18 c4_i32_91
  let v136 : BitVec 32 := Scalar.addi v134 v135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v137 : BitVec 32 := Scalar.muli v8 c1_i32_92
  let v138 : BitVec 32 := Scalar.addi v136 v137
  v138.toNat
def k0_off24 (d0 : Dev nD) : Fin 2 → Nat :=
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c512_i32_31 : BitVec 32 := 512#32
  let v50 : BitVec 32 := Scalar.muli v16 c512_i32_31
  let c256_i32_108 : BitVec 32 := 256#32
  ![v50.toNat, 256]
def k0_dev18 (d0 : Dev nD) : Nat :=
  let c0_i32_105 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_104 : BitVec 32 := 8#32
  let v155 : BitVec 32 := Scalar.muli v17 c8_i32_104
  let v156 : BitVec 32 := Scalar.addi c0_i32_105 v155
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_106 : BitVec 32 := 4#32
  let v157 : BitVec 32 := Scalar.muli v5 c4_i32_106
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v159 : BitVec 32 := Scalar.muli v8 c1_i32_107
  let v160 : BitVec 32 := Scalar.addi v158 v159
  v160.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S4x2048x512 : Shape := ⟨3, ![4, 2048, 512]⟩
abbrev S_ : Shape := ⟨0, ![]⟩
abbrev S2048x512 : Shape := ⟨2, ![2048, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S4x2048x512, .f32⟩
  | .hbm, ⟨2, _⟩ => ⟨S_, .f32⟩
  | .hbm, ⟨3, _⟩ => ⟨S2048x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
/-
The mesh of sixteen devices and the protocol's bookkeeping, as plain arithmetic.

A device `c` sits at `(x, y, z)` with `c = 8 x + 4 y + z`; its lane is `2 x + y`. Along a lane run two chains: direction
`false` upwards (from `z = 0` to `z = 3`), direction `true` downwards. Every device has 21 semaphores that other devices or
its own copies raise: the barrier, and for each direction two send and two receive semaphores (one per column half), and six
send and six receive semaphores for the exchange between the lanes. `Due` lists the 24 raises a device is responsible for.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.LaneSum

open Cert.KernelIdeal Cert.KernelIdeal.Gen
open Idealize.ShloMosaic
open Idealize.ShloMosaic.TcCoe

/-! ## The neighbours of a device -/

set_option backward.proofsInPublic true in
/-- The device across the `x` axis. -/
def xd (c : Dev nD) : Dev nD := ⟨(c.val + 8) % 16, Nat.mod_lt _ (by decide)⟩
set_option backward.proofsInPublic true in
/-- The device across the `y` axis. -/
def yd (c : Dev nD) : Dev nD := ⟨(8 * (c.val / 8) + (c.val + 4) % 8) % 16, Nat.mod_lt _ (by decide)⟩
set_option backward.proofsInPublic true in
/-- The next device along direction `b` of the lane, cyclically. -/
def nx (b : Bool) (c : Dev nD) : Dev nD :=
  ⟨(4 * (c.val / 4) + (c.val + (bif b then 3 else 1)) % 4) % 16, Nat.mod_lt _ (by decide)⟩
/-- The device before `c` along direction `b`. -/
abbrev pv (b : Bool) (c : Dev nD) : Dev nD := nx (!b) c

set_option backward.proofsInPublic true in
/-- The lane `2 x + y` of a device. -/
def ln (c : Dev nD) : Fin 4 := ⟨(c.val / 4) % 4, Nat.mod_lt _ (by decide)⟩

/-- How many devices of the lane come before `c` along direction `b`. -/
def dist (b : Bool) (c : Dev nD) : ℕ := bif b then 3 - c.val % 4 else c.val % 4

/-- `c` is not the first along direction `b`; -/
abbrev hasP (b : Bool) (c : Dev nD) : Prop := 0 < dist b c
/-- `c` is not the last along direction `b`. -/
abbrev hasN (b : Bool) (c : Dev nD) : Prop := dist b c < 3

theorem xd_xd (c : Dev nD) : xd (xd c) = c := by revert c; decide
theorem yd_yd (c : Dev nD) : yd (yd c) = c := by revert c; decide
theorem xd_yd (c : Dev nD) : xd (yd c) = yd (xd c) := by revert c; decide
theorem pv_nx (b : Bool) (c : Dev nD) : nx (!b) (nx b c) = c := by revert b c; decide
theorem nx_pv (b : Bool) (c : Dev nD) : nx b (nx (!b) c) = c := by revert b c; decide
theorem ln_nx (b : Bool) (c : Dev nD) : ln (nx b c) = ln c := by revert b c; decide
theorem dist_pv (b : Bool) (c : Dev nD) (h : hasP b c) : dist b c = dist b (pv b c) + 1 := by revert b c; decide
theorem hasP_nx (b : Bool) (c : Dev nD) (h : hasN b c) : hasP b (nx b c) := by revert b c; decide
theorem hasN_pv (b : Bool) (c : Dev nD) (h : hasP b c) : hasN b (pv b c) := by revert b c; decide
theorem hasP_not (b : Bool) (c : Dev nD) : hasP (!b) c ↔ hasN b c := by revert b c; decide

/-! ## The exchange between lanes: six copies, numbered as the kernel's semaphores -/

/-- Whom device `c` sends copy `i` to. -/
def px : Fin 6 → Dev nD → Dev nD := ![xd, yd, yd, yd, xd, xd]
/-- Whose reduced block device `c` sends as copy `i`, -/
def sd : Fin 6 → Dev nD → Dev nD := ![id, id, id, xd, id, yd]
/-- and whose it receives as copy `i`. -/
def rd : Fin 6 → Dev nD → Dev nD := ![xd, yd, yd, fun c => xd (yd c), xd, fun c => xd (yd c)]
/-- The column half copy `i` moves. -/
def hf : Fin 6 → Fin 2 := ![0, 1, 0, 0, 1, 1]

theorem rd_px (i : Fin 6) (c : Dev nD) : rd i (px i c) = sd i c := by revert i c; decide
theorem px_px (i : Fin 6) (c : Dev nD) : px i (px i c) = c := by revert i c; decide

/-! ## The semaphores by number -/

set_option backward.proofsInPublic true in
/-- The send semaphore of direction `b`, half `s`; -/
def kSend (b : Bool) (s : Fin 2) : Fin 21 := ⟨(1 + 4 * b.toNat + s.val) % 21, Nat.mod_lt _ (by decide)⟩
set_option backward.proofsInPublic true in
/-- the receive semaphore of direction `b`, half `s`; -/
def kRecv (b : Bool) (s : Fin 2) : Fin 21 := ⟨(3 + 4 * b.toNat + s.val) % 21, Nat.mod_lt _ (by decide)⟩
set_option backward.proofsInPublic true in
/-- the send semaphore of exchange copy `i`; -/
def kXs (i : Fin 6) : Fin 21 := ⟨(9 + i.val) % 21, Nat.mod_lt _ (by decide)⟩
set_option backward.proofsInPublic true in
/-- the receive semaphore of exchange copy `i`. -/
def kXr (i : Fin 6) : Fin 21 := ⟨(15 + i.val) % 21, Nat.mod_lt _ (by decide)⟩

/-- The barrier semaphore. -/
abbrev barS : Sem sig := (SemArray.scalar (sig.barrier 0 rfl) : Sems sig S_).sem

set_option backward.proofsInPublic true in
/-- The semaphore numbered `k`: the barrier at 0, then the kernel's own twenty in order. -/
def csem (k : Fin 21) : SemLoc sig :=
  if k = 0 then .reg barS else .dma (⟨(k.val + 1) % 22, Nat.mod_lt _ (by decide)⟩ : Fin 22)

set_option backward.proofsInPublic true in
/-- The kernel's own twenty semaphores, as the launch counts them. -/
def osem (k : Fin 20) : SemLoc sig := .dma (⟨(k.val + 2) % 22, Nat.mod_lt _ (by decide)⟩ : Fin 22)

set_option backward.proofsInPublic true in
/-- The number of a semaphore, if it is one of the 21. -/
def kindOf : SemLoc sig → Option (Fin 21)
  | .reg _ => some 0
  | .dma (j : Fin 22) => if 2 ≤ j.val then some ⟨(j.val - 1) % 21, Nat.mod_lt _ (by decide)⟩ else none

theorem kindOf_csem (k : Fin 21) : kindOf (csem k) = some k := by revert k; decide
theorem csem_injective : Function.Injective csem := fun k k' h => by
  have := congrArg kindOf h; rw [kindOf_csem, kindOf_csem] at this; exact Option.some.inj this

/-- The cell of device `ck.1`'s semaphore `ck.2`. -/
def kcell (ck : Dev nD × Fin 21) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## What raises which semaphore -/

/-- Whether semaphore `k` of device `c` is used at all. -/
def kAct (c : Dev nD) (k : Fin 21) : Bool :=
  if k.val = 0 then true
  else if k.val ≤ 2 then decide (hasN false c) else if k.val ≤ 4 then decide (hasP false c)
  else if k.val ≤ 6 then decide (hasN true c) else if k.val ≤ 8 then decide (hasP true c) else true

/-- The duties on semaphore `k` of device `c`: on the barrier `0` from across `x`, `1` from across `y`, `2` from above if
    there is a device above, `3` from below if there is one; on any other used semaphore the one duty `0`. -/
def kDuties (c : Dev nD) (k : Fin 21) : Finset (Fin 4) :=
  if k = 0 then Finset.univ.filter fun d => d.val ≤ 1 ∨ (d.val = 2 ∧ hasN false c) ∨ (d.val = 3 ∧ hasN true c)
  else if kAct c k then {0} else ∅

/-- What a device is responsible for: 0–3 the barrier signals, 4–7 and 8–13 the arrivals of its copies along the lane and
    between lanes, 14–17 and 18–23 the departures of those copies. -/
abbrev Due : Type := Fin 24

set_option backward.proofsInPublic true in
/-- The semaphore a due raises, -/
def dKind : Due → Fin 21 :=
  ![0, 0, 0, 0, 3, 4, 7, 8, 15, 16, 17, 18, 19, 20, 1, 2, 5, 6, 9, 10, 11, 12, 13, 14]
set_option backward.proofsInPublic true in
/-- its duty there, -/
def dDuty : Due → Fin 4 :=
  ![0, 1, 2, 3, 0, 0, 0, 0, 0, 0, 0, 0, 0, 0, 0, 0, 0, 0, 0, 0, 0, 0, 0, 0]
set_option backward.proofsInPublic true in
/-- and the device it is raised on. -/
def dDev : Due → Dev nD → Dev nD :=
  ![xd, yd, pv false, pv true, nx false, nx false, nx true, nx true, px 0, px 1, px 2, px 3, px 4, px 5,
    id, id, id, id, id, id, id, id, id, id]

/-- Whether device `c` has the due. -/
def dAct (i : Due) (c : Dev nD) : Bool :=
  if i.val = 2 then decide (hasP false c) else if i.val = 3 then decide (hasP true c)
  else if i.val = 4 ∨ i.val = 5 ∨ i.val = 14 ∨ i.val = 15 then decide (hasN false c)
  else if i.val = 6 ∨ i.val = 7 ∨ i.val = 16 ∨ i.val = 17 then decide (hasN true c) else true

/-- The arrival of the chain copy of direction `b`, half `s`, its departure, -/
def iChain (b : Bool) (s : Fin 2) : Due := ⟨(4 + 2 * b.toNat + s.val) % 24, Nat.mod_lt _ (by decide)⟩
def jChain (b : Bool) (s : Fin 2) : Due := ⟨(14 + 2 * b.toNat + s.val) % 24, Nat.mod_lt _ (by decide)⟩
/-- the arrival of exchange copy `i`, its departure. -/
def iX (i : Fin 6) : Due := ⟨(8 + i.val) % 24, Nat.mod_lt _ (by decide)⟩
def jX (i : Fin 6) : Due := ⟨(18 + i.val) % 24, Nat.mod_lt _ (by decide)⟩

theorem dKind_iChain (b : Bool) (s : Fin 2) : dKind (iChain b s) = kRecv b s := by revert b s; decide
theorem dKind_jChain (b : Bool) (s : Fin 2) : dKind (jChain b s) = kSend b s := by revert b s; decide
theorem dKind_iX (i : Fin 6) : dKind (iX i) = kXr i := by revert i; decide
theorem dKind_jX (i : Fin 6) : dKind (jX i) = kXs i := by revert i; decide
theorem dDuty_iChain (b : Bool) (s : Fin 2) : dDuty (iChain b s) = 0 := by revert b s; decide
theorem dDuty_jChain (b : Bool) (s : Fin 2) : dDuty (jChain b s) = 0 := by revert b s; decide
theorem dDuty_iX (i : Fin 6) : dDuty (iX i) = 0 := by revert i; decide
theorem dDuty_jX (i : Fin 6) : dDuty (jX i) = 0 := by revert i; decide
theorem dDev_iChain (b : Bool) (s : Fin 2) (c : Dev nD) : dDev (iChain b s) c = nx b c := by revert b s c; decide
theorem dDev_jChain (b : Bool) (s : Fin 2) (c : Dev nD) : dDev (jChain b s) c = c := by revert b s c; decide
theorem dDev_iX (i : Fin 6) (c : Dev nD) : dDev (iX i) c = px i c := by revert i c; decide
theorem dDev_jX (i : Fin 6) (c : Dev nD) : dDev (jX i) c = c := by revert i c; decide

theorem due_injective : ∀ i i' : Due, dKind i = dKind i' → dDuty i = dDuty i' → i = i' := by decide
theorem dDev_injective : ∀ (i : Due) (c c' : Dev nD), dDev i c = dDev i c' → c = c' := by decide +kernel

/-- A due is a duty of its semaphore. -/
theorem due_mem : ∀ (i : Due) (c : Dev nD), dAct i c = true → dDuty i ∈ kDuties (dDev i c) (dKind i) := by decide +kernel

/-! ## Levels: what may be waited on while what is still owed -/

set_option backward.proofsInPublic true in
/-- The level of semaphore `k` of device `c`: departures lowest, then the barrier, then the arrivals along the lane by half
    and distance, then the exchange by stage. -/
def kLev (c : Dev nD) (k : Fin 21) : ℕ :=
  if k = 0 then 1
  else if k = 3 ∨ k = 4 then 1 + 3 * (k.val - 3) + dist false c
  else if k = 7 ∨ k = 8 then 1 + 3 * (k.val - 7) + dist true c
  else if k.val < 15 then 0
  else if k = 15 ∨ k = 16 then 8 else if k = 17 ∨ k = 19 then 9 else 10

theorem kLev_pos : ∀ (c : Dev nD) (i : Due), i.val < 14 → 0 < kLev (dDev i c) (dKind i) := by decide +kernel

end Cert.LaneSum

end
-- ==== Proof.Schedule.lean ====
/-
What the devices hold and hand each other: the regions of the buffers, the values they carry, and the schedule of duties
whose payloads move them.

Along direction `b` device `c` receives into `inH b s c` the running sum of the devices before it, adds its own block into
`outH b s c`, and sends that on. The two running sums meet in `tot`, the lane's sum of the four blocks at this lane's rows.
The result's eight regions `oR q s` (row block `q`, column half `s`) are written by the device itself at its own lane, and by
the six exchange copies at the other three.
-/
module

public import proofs.«01_k».proof.Proof.Mesh
public import Idealize.ShloMosaic.Lib.MemrefSat

@[expose] public section

set_option maxRecDepth 4000

noncomputable section

namespace Cert.LaneSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own and one copy of the rounds library with four duty names -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory a run starts from: any contents, every semaphore at zero. -/
def s₀ : MemSt nD τ sig (Elt F) := ⟨m, fun _ => 0, ρ⟩

/-! ## Regions -/

abbrev xM : Memref sig .tc .vmem S2048x512 .f32 := Memref.whole cc0_stg0_0
abbrev oM : Memref sig .tc .vmem S2048x512 .f32 := Memref.whole cc0_stg1_0
/-- The landing buffer of direction `b`, -/
def inM : Bool → Memref sig .tc .vmem S512x512 .f32
  | false => Memref.whole cc0_scratch0
  | true => Memref.whole cc0_scratch2
/-- and the buffer the running sum is formed in. -/
def outM : Bool → Memref sig .tc .vmem S512x512 .f32
  | false => Memref.whole cc0_scratch1
  | true => Memref.whole cc0_scratch3

theorem inb_half (s : Fin 2) : ∀ a, (![0, 256 * s.val] : Fin 2 → Nat) a + S512x256.size a ≤ S512x512.size a := by
  revert s; decide
theorem inb_reg (q : Fin 4) (s : Fin 2) : ∀ a, (![512 * q.val, 256 * s.val] : Fin 2 → Nat) a + S512x256.size a ≤ S2048x512.size a := by
  revert q s; decide

/-- Column half `s` of a row block's buffer, -/
abbrev hRect (s : Fin 2) : Rect S512x512 := Rect.unit (s := S512x512) ![0, 256 * s.val] S512x256.size (inb_half s)
/-- column half `s` of row block `q` of a whole block. -/
abbrev gRect (q : Fin 4) (s : Fin 2) : Rect S2048x512 := Rect.unit (s := S2048x512) ![512 * q.val, 256 * s.val] S512x256.size (inb_reg q s)

abbrev inH (b : Bool) (s : Fin 2) : Memref sig .tc .vmem S512x256 .f32 := (inM b).slice (hRect s) (fun _ => rfl)
abbrev outH (b : Bool) (s : Fin 2) : Memref sig .tc .vmem S512x256 .f32 := (outM b).slice (hRect s) (fun _ => rfl)
abbrev oR (q : Fin 4) (s : Fin 2) : Memref sig .tc .vmem S512x256 .f32 := oM.slice (gRect q s) (fun _ => rfl)

/-- The credit of one copy: all move 512 × 256 elements. -/
def N : ℕ := (inH false 0).view.dmaCredit
theorem N_pos : 0 < N := View.dmaCredit_pos _ (by decide)

/-! ## Values -/

/-- Device `c`'s block as staged into the kernel. -/
def xstg (c : Dev nD) : (cc0_stg0_0 : Ref sig .tc).ty.Contents (Elt F) :=
  (win0_0.blk (0 : Fin 1)).view.read (Elt F) ((s₀ m ρ).mem ((c : Thread nD τ).loc main_arg0))

/-- The rows of device `c`'s block that its own lane reduces, column half `s`. -/
def xq (c : Dev nD) (s : Fin 2) : Vec F S512x256 .f32 := fun j => xstg m ρ c ((gRect (ln c) s).emb j)

/-- The running sum after `n + 1` devices of `c`'s lane, ending at `c`, along direction `b`. -/
def run (b : Bool) (s : Fin 2) : ℕ → Dev nD → Vec F S512x256 .f32
  | 0, c => k0_pay1 (xq m ρ c s)
  | n + 1, c => k0_pay2 (run b s n (pv b c)) (xq m ρ c s)

/-- The running sum device `c` forms along direction `b`. -/
def chain (b : Bool) (c : Dev nD) (s : Fin 2) : Vec F S512x256 .f32 := run m ρ b s (dist b c) c

theorem chain_first (b : Bool) (c : Dev nD) (s : Fin 2) (h : ¬ hasP b c) : chain m ρ b c s = k0_pay1 (xq m ρ c s) := by
  unfold chain; rw [Nat.eq_zero_of_not_pos h]; rfl
theorem chain_next (b : Bool) (c : Dev nD) (s : Fin 2) (h : hasP b c) :
    chain m ρ b c s = k0_pay2 (chain m ρ b (pv b c) s) (xq m ρ c s) := by
  unfold chain; rw [dist_pv b c h]; rfl

/-- The lane's sum on device `c`: the running sum up to `c` plus the one of the devices above. -/
def tot (c : Dev nD) (s : Fin 2) : Vec F S512x256 .f32 :=
  if hasN false c then k0_pay9 (chain m ρ false c s) (chain m ρ true (nx false c) s) else chain m ρ false c s

/-! ## Payloads -/

/-- A region at whatever contents. -/
abbrev anyAt (c : Dev nD) (M : Memref sig .tc .vmem S512x256 .f32) : sProp 𝕄 := ownsSat (c : Thread nD τ) M fullShare fun _ => True

/-- The region copy `i` lands in on device `e`, at any contents. -/
def land (i : Fin 6) (e : Dev nD) : sProp 𝕄 := anyAt e (oR (ln (rd i e)) (hf i))
/-- Both landing halves of direction `b` on device `e`, at any contents. -/
def landC (b : Bool) (e : Dev nD) : sProp 𝕄 := iprop(anyAt e (inH b 0) ∗ anyAt e (inH b 1))

/-- What a barrier signal hands device `c`: the regions on the signalling device that `c` will write. -/
def barPay (c : Dev nD) (d : Fin 4) : sProp 𝕄 :=
  if d = 0 then iprop(land 0 (xd c) ∗ land 4 (xd c) ∗ land 5 (xd c))
  else if d = 1 then iprop(land 1 (yd c) ∗ land 2 (yd c) ∗ land 3 (yd c))
  else if d = 2 then landC false (nx false c) else landC true (nx true c)

/-- The share of a source a copy reads at: two copies read one source at a time, so half each. -/
def xShare (i : Fin 6) : PosShare TreeShare :=
  if i = 0 ∨ i = 1 then fullShare.left else if i = 2 ∨ i = 4 then fullShare.right else fullShare

def sendPay (b : Bool) (s : Fin 2) (c : Dev nD) : sProp 𝕄 :=
  owns (c : Thread nD τ) (outH b s) fullShare.left (chain m ρ b c s)
def recvPay (b : Bool) (s : Fin 2) (c : Dev nD) : sProp 𝕄 :=
  owns (c : Thread nD τ) (inH b s) fullShare (chain m ρ b (pv b c) s)
def xsPay (i : Fin 6) (c : Dev nD) : sProp 𝕄 :=
  owns (c : Thread nD τ) (oR (ln (sd i c)) (hf i)) (xShare i) (tot m ρ (sd i c) (hf i))
def xrPay (i : Fin 6) (c : Dev nD) : sProp 𝕄 :=
  owns (c : Thread nD τ) (oR (ln (rd i c)) (hf i)) fullShare (tot m ρ (rd i c) (hf i))

/-- The payload of duty `d` on semaphore `k` of device `c`. -/
def kPay (c : Dev nD) (d : Fin 4) : Fin 21 → sProp 𝕄
  | 0 => barPay c d
  | 1 => sendPay m ρ false 0 c | 2 => sendPay m ρ false 1 c | 3 => recvPay m ρ false 0 c | 4 => recvPay m ρ false 1 c
  | 5 => sendPay m ρ true 0 c | 6 => sendPay m ρ true 1 c | 7 => recvPay m ρ true 0 c | 8 => recvPay m ρ true 1 c
  | 9 => xsPay m ρ 0 c | 10 => xsPay m ρ 1 c | 11 => xsPay m ρ 2 c | 12 => xsPay m ρ 3 c | 13 => xsPay m ρ 4 c | 14 => xsPay m ρ 5 c
  | 15 => xrPay m ρ 0 c | 16 => xrPay m ρ 1 c | 17 => xrPay m ρ 2 c | 18 => xrPay m ρ 3 c | 19 => xrPay m ρ 4 c | _ => xrPay m ρ 5 c

theorem kPay_send (b : Bool) (s : Fin 2) (c : Dev nD) (d : Fin 4) : kPay m ρ c d (kSend b s) = sendPay m ρ b s c := by
  cases b <;> fin_cases s <;> rfl
theorem kPay_recv (b : Bool) (s : Fin 2) (c : Dev nD) (d : Fin 4) : kPay m ρ c d (kRecv b s) = recvPay m ρ b s c := by
  cases b <;> fin_cases s <;> rfl
theorem kPay_xs (i : Fin 6) (c : Dev nD) (d : Fin 4) : kPay m ρ c d (kXs i) = xsPay m ρ i c := by fin_cases i <;> rfl
theorem kPay_xr (i : Fin 6) (c : Dev nD) (d : Fin 4) : kPay m ρ c d (kXr i) = xrPay m ρ i c := by fin_cases i <;> rfl

omit [FloatOps F] in
instance barPay_storable (c : Dev nD) (d : Fin 4) : BI.Storable (upEmb : UEmb _ 𝕄) (barPay (F := F) c d) := by
  unfold barPay land landC; (repeat' split) <;> infer_instance
instance kPay_storable (c : Dev nD) (d : Fin 4) (k : Fin 21) : BI.Storable (upEmb : UEmb _ 𝕄) (kPay m ρ c d k) := by
  unfold kPay sendPay recvPay xsPay xrPay; split <;> infer_instance

/-! ## The schedule -/

/-- One unit a barrier signal, one copy's credit everything else. -/
def kAmt (k : Fin 21) : ℕ := if k = 0 then 1 else N

theorem kAmt_pos (k : Fin 21) : 0 < kAmt k := by
  unfold kAmt; split
  · exact Nat.one_pos
  · exact N_pos

def sched : Rounds.Schedule (GSem nD τ sig) (Fin 4) 𝕄 where
  duties g r := if r = 0 then (match kindOf g.2 with | some k => kDuties g.1.1 k | none => ∅) else ∅
  unitless _ := False
  amount g _ _ := match kindOf g.2 with | some k => kAmt k | none => 1
  payload g _ d := match kindOf g.2 with | some k => kPay m ρ g.1.1 d k | none => iprop(emp)
  amount_pos g _ _ _ := by
    split
    · exact kAmt_pos _
    · exact Nat.one_pos

instance sched_storable (g : GSem nD τ sig) (r : ℕ) (d : Fin 4) :
    BI.Storable (upEmb : UEmb _ 𝕄) ((sched (F := F) m ρ).payload g r d) := by
  show BI.Storable upEmb (match kindOf g.2 with | some k => kPay m ρ g.1.1 d k | none => iprop(emp))
  split <;> infer_instance

section Tables

variable (c : Dev nD) (k : Fin 21) (d : Fin 4)

theorem duties_cell : (sched (F := F) m ρ).duties (kcell (c, k)) 0 = kDuties c k := by
  dsimp only [sched, kcell]; rw [if_pos rfl, kindOf_csem]
theorem duties_later (g : GSem nD τ sig) : ∀ r, 1 ≤ r → (sched (F := F) m ρ).duties g r = ∅ :=
  fun r hr => by dsimp only [sched]; rw [if_neg (by omega)]
theorem amount_cell : (sched (F := F) m ρ).amount (kcell (c, k)) 0 d = kAmt k := by
  dsimp only [sched, kcell]; rw [kindOf_csem]
theorem payload_cell : (sched (F := F) m ρ).payload (kcell (c, k)) 0 d = kPay m ρ c d k := by
  dsimp only [sched, kcell]; rw [kindOf_csem]
theorem expect_cell : (sched (F := F) m ρ).expect (kcell (c, k)) 0 = (kDuties c k).card * kAmt k := by
  unfold Schedule.expect Schedule.amountOf
  rw [duties_cell, Finset.sum_congr rfl fun d _ => amount_cell m ρ c k d, Finset.sum_const, smul_eq_mul]

/-- A used semaphore other than the barrier has the one duty `0`; -/
theorem kDuties_one (hk : k ≠ 0) (ha : kAct c k = true) : kDuties c k = {0} := by
  unfold kDuties; rw [if_neg hk, if_pos ha]
/-- an unused one none. -/
theorem kDuties_none (hk : k ≠ 0) (ha : ¬ kAct c k = true) : kDuties c k = ∅ := by
  unfold kDuties; rw [if_neg hk, if_neg ha]
theorem kAmt_N (hk : k ≠ 0) : kAmt k = N := if_neg hk

end Tables

/-! ## What a device owes, and what it may wait on meanwhile -/

/-- The dues device `c` still has to other devices, those in `A` being done. -/
def left (c : Dev nD) (A : Finset Due) : Finset Due := Finset.univ.filter fun i => i.val < 14 ∧ dAct i c = true ∧ i ∉ A

/-- The tally of one due, -/
def dTally (c : Dev nD) (i : Due) : CellTallies nD τ sig Unit := tallyAt (kcell (dDev i c, dKind i)) () (kAmt (dKind i))
/-- and of all that are left. -/
def owe (c : Dev nD) (A : Finset Due) : CellTallies nD τ sig Unit := ∑ i ∈ left c A, dTally c i

/-- Paying one due. -/
theorem owe_pay (c : Dev nD) (A : Finset Due) (i : Due) (hi : i.val < 14) (ha : dAct i c = true) (hA : i ∉ A) :
    owe c A = owe c (insert i A) + dTally c i := by
  have hm : i ∈ left c A := Finset.mem_filter.mpr ⟨Finset.mem_univ _, hi, ha, hA⟩
  have he : (left c A).erase i = left c (insert i A) := by
    ext j; simp only [left, Finset.mem_erase, Finset.mem_filter, Finset.mem_univ, true_and, Finset.mem_insert, not_or]; tauto
  unfold owe; rw [← he, add_comm, Finset.add_sum_erase _ _ hm]

/-- A due the device does not have may be counted done. -/
theorem owe_skip (c : Dev nD) (A : Finset Due) (i : Due) (ha : ¬ dAct i c = true) : owe c A = owe c (insert i A) := by
  have he : left c A = left c (insert i A) := by
    ext j; simp only [left, Finset.mem_filter, Finset.mem_univ, true_and, Finset.mem_insert, not_or]
    constructor
    · rintro ⟨h1, h2, h3⟩; exact ⟨h1, h2, fun e => ha (e ▸ h2), h3⟩
    · rintro ⟨h1, h2, -, h3⟩; exact ⟨h1, h2, h3⟩
  unfold owe; rw [he]

theorem owe_none (c : Dev nD) (A : Finset Due) (h : ∀ i : Due, i.val < 14 → i ∈ A) : owe c A = 0 := by
  unfold owe; rw [show left c A = ∅ from Finset.filter_eq_empty_iff.mpr fun i _ hi => hi.2.2 (h i hi.1), Finset.sum_empty]

theorem owe_pos {c : Dev nD} {A : Finset Due} {g : GSem nD τ sig} {u : Unit} (h : 0 < owe c A g u) :
    ∃ i : Due, i.val < 14 ∧ dAct i c = true ∧ i ∉ A ∧ g = kcell (dDev i c, dKind i) := by
  unfold owe at h
  rw [Finset.sum_apply, Finsupp.finset_sum_apply] at h
  obtain ⟨i, hi, hp⟩ := Finset.exists_ne_zero_of_sum_ne_zero (Nat.pos_iff_ne_zero.mp h)
  obtain ⟨-, h1, h2, h3⟩ := Finset.mem_filter.mp hi
  exact ⟨i, h1, h2, h3, (Pipeline.tallyAt_pos (Nat.pos_of_ne_zero hp)).1⟩

def L (g : GSem nD τ sig) : Finset Unit := if g.1.2 = .tc then {()} else ∅
def lv (g : GSem nD τ sig) (_ : Unit) : ℕ := match kindOf g.2 with | some k => kLev g.1.1 k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 21) (u : Unit) : lv (kcell (c, k)) u = kLev c k := by
  dsimp only [lv, kcell]; rw [kindOf_csem]

/-- A semaphore whose level lies below every due left may be waited on. -/
theorem mayWait_of (c : Dev nD) (sm : SemLoc sig) (A : Finset Due)
    (h : ∀ i : Due, i.val < 14 → dAct i c = true → i ∉ A → lv ((c : Thread nD τ), sm) () < kLev (dDev i c) (dKind i)) :
    (levAts L lv : sProp 𝕄) ⊢ MayWait (c : Thread nD τ) sm () (owe c A) :=
  MayOwe.of_levAts (L := L) (lev := lv) (fun p hp => by rw [Finset.mem_singleton.mp hp, L_tc]; exact Finset.mem_singleton_self _)
    (fun g u hg => by obtain ⟨i, -, -, -, rfl⟩ := owe_pos hg; exact Finset.mem_singleton_self _)
    (fun g u hg p hp => by
      obtain ⟨i, h1, h2, h3, rfl⟩ := owe_pos hg
      rw [Finset.mem_singleton.mp hp, lv_cell]; exact h i h1 h2 h3)

theorem mayWait_cell (c : Dev nD) (k : Fin 21) (A : Finset Due)
    (h : ∀ i : Due, i.val < 14 → dAct i c = true → i ∉ A → kLev c k < kLev (dDev i c) (dKind i)) :
    (levAts L lv : sProp 𝕄) ⊢ MayWait (c : Thread nD τ) (csem k) () (owe c A) :=
  mayWait_of c (csem k) A fun i h1 h2 h3 => by rw [show lv ((c : Thread nD τ), csem k) () = _ from lv_cell c k ()]; exact h i h1 h2 h3

end Cert.LaneSum

end
-- ==== Proof.Rules.lean ====
/-
One rule per kind of operation the kernel performs, over regions owned by the values they hold and over the schedule's
semaphores by number.
-/
module

public import proofs.«01_k».proof.Proof.Schedule

@[expose] public section

set_option maxRecDepth 100000

noncomputable section

namespace Cert.LaneSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`'s core. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Regions -/

section Data

variable {sp : CoreSpace} {sh : Shape} {e : EltTy} {α : Type} {Q : α → sProp (MT nD τ sig Unit (Elt F) ℕ UU ℕ)}

/-- Loading a region that is owned. -/
theorem load_at (c : Dev nD) (M : Memref sig .tc sp sh e) (r : Rect sh) (hr : ∀ a, r.stride a = 1) (q : PosShare TreeShare)
    (X : r.shape.Idx → Elt F e) {hl : M.view.LoadsAt r.toLoadRect} {k : (r.shape.Idx → Elt F e) → Prog (TpuEff nD τ sig (Elt F) Λ₀ .tc) α} :
    (owns (c : Thread nD τ) (M.slice r hr) q X : sProp 𝕄)
      ⊢ iprop((owns (c : Thread nD τ) (M.slice r hr) q X -∗ WP c (k X) Q) -∗ WP c (.op (.load M r.toLoadRect hl) k) Q) := by
  unfold owns
  iintro ⟨%f, %hf, H⟩ Hk
  iapply (wp_load_rect (defs := defs₀ (F := F)) 𝒱₀ (c : Thread nD τ) none Set.univ (m := M) (r := r) (f := f) (S := (M.access r).set) subset_rfl) $$ H
  iintro H
  have hf' : (M.access r).read (Elt F) f = X := hf
  rw [hf']
  iapply Hk
  iexists f
  isplitr; · ipureintro; exact hf
  iexact H

/-- Loading a region of a memref owned whole. -/
theorem load_of (c : Dev nD) (M : Memref sig .tc sp sh e) (r : Rect sh) (q : PosShare TreeShare)
    (X : sh.Idx → Elt F e) {hl : M.view.LoadsAt r.toLoadRect} {k : (r.shape.Idx → Elt F e) → Prog (TpuEff nD τ sig (Elt F) Λ₀ .tc) α} :
    (owns (c : Thread nD τ) M q X : sProp 𝕄)
      ⊢ iprop((owns (c : Thread nD τ) M q X -∗ WP c (k fun j => X (r.emb j)) Q) -∗ WP c (.op (.load M r.toLoadRect hl) k) Q) := by
  unfold owns
  iintro ⟨%f, %hf, H⟩ Hk
  iapply (wp_load_rect (defs := defs₀ (F := F)) 𝒱₀ (c : Thread nD τ) none Set.univ (m := M) (r := r) (f := f) (S := M.view.set)
    (View.set_slice_subset _ _)) $$ H
  iintro H
  have hf' : (M.access r).read (Elt F) f = fun j => X (r.emb j) := by rw [← hf]; rfl
  rw [hf']
  iapply Hk
  iexists f
  isplitr; · ipureintro; exact hf
  iexact H

/-- Storing over a region, whatever it held. -/
theorem store_at (c : Dev nD) (M : Memref sig .tc sp sh e) (r : Rect sh) (hr : ∀ a, r.stride a = 1)
    (w : r.shape.Idx → Elt F e) {hx : (M.access r).Stores Finset.univ} {hm : (Finset.univ : Finset r.shape.Idx) = Finset.univ ∨ ∀ a, r.stride a = 1}
    {k : PUnit → Prog (TpuEff nD τ sig (Elt F) Λ₀ .tc) α} :
    (ownsSat (c : Thread nD τ) (M.slice r hr) fullShare (fun _ => True) : sProp 𝕄)
      ⊢ iprop((owns (c : Thread nD τ) (M.slice r hr) fullShare w -∗ WP c (k ⟨⟩) Q)
          -∗ WP c (.op (.store M r w Finset.univ hx hm) k) Q) := by
  unfold ownsSat owns
  iintro ⟨%f, -, H⟩ Hk
  iapply (wp_store (defs := defs₀ (F := F)) 𝒱₀ (c : Thread nD τ) none Set.univ (m := M) (r := r) (Mk := Finset.univ) (f := f)
    (S := (M.access r).set) (View.setOn_univ _).subset) $$ H
  iintro H
  iapply Hk
  iexists (M.access r).write (Elt F) f w Finset.univ
  isplitr; · ipureintro; exact View.read_write_univ _ _
  iexact H

end Data

/-! ## The protocol's shared records -/

/-- The levels of all semaphores. -/
def levs : sProp 𝕄 := levAts L lv

omit [FloatOps F] in
instance levs_persistent : BI.Persistent (levs (F := F)) := by unfold levs; infer_instance

theorem mayWait_levs (c : Dev nD) (k : Fin 21) (A : Finset Due)
    (h : ∀ i : Due, i.val < 14 → dAct i c = true → i ∉ A → kLev c k < kLev (dDev i c) (dKind i)) :
    (levs (F := F)) ⊢ MayWait (c : Thread nD τ) (csem k) () (owe c A) := mayWait_cell (F := F) c k A h

/-- Every cell's invariant, under the names `K`, that every cell has reached its round, and the levels. -/
def records (K : Dev nD × Fin 21 → ℕ) : sProp 𝕄 :=
  iprop((bigSep Finset.univ fun ck : Dev nD × Fin 21 => cellInv ER (sched m ρ) (K ck) (kcell ck))
    ∗ (bigSep Finset.univ fun ck : Dev nD × Fin 21 => reached ER (kcell ck) 0) ∗ levs)

instance records_persistent (K : Dev nD × Fin 21 → ℕ) : BI.Persistent (records m ρ K) := by unfold records; infer_instance

variable (K : Dev nD × Fin 21 → ℕ)

theorem inv_of (c : Dev nD) (k : Fin 21) : records m ρ K ⊢ cellInv ER (sched m ρ) (K (c, k)) ((c : Thread nD τ), csem k) :=
  sep_elim_left.trans (bigSep_elim (Φ := fun ck : Dev nD × Fin 21 => cellInv ER (sched m ρ) (K ck) (kcell ck)) (Finset.mem_univ (c, k)))
theorem reached_of (c : Dev nD) (k : Fin 21) : records m ρ K ⊢ (reached ER ((c : Thread nD τ), csem k) 0 : sProp 𝕄) :=
  sep_elim_right.trans (sep_elim_left.trans
    (bigSep_elim (Φ := fun ck : Dev nD × Fin 21 => (reached ER (kcell ck) 0 : sProp 𝕄)) (Finset.mem_univ (c, k))))
theorem levs_of : records m ρ K ⊢ levs := sep_elim_right.trans sep_elim_right

/-- What device `c` still owes, the dues in `A` being done, whatever it has waited on. -/
def ow (c : Dev nD) (A : Finset Due) : sProp 𝕄 := iprop(∃ W, owes (c : Thread nD τ) (owe c A) W)

omit [FloatOps F] in
theorem ow_skip (c : Dev nD) (A : Finset Due) (i : Due) (ha : ¬ dAct i c = true) : (ow c A : sProp 𝕄) ⊢ ow c (insert i A) := by
  unfold ow; rw [owe_skip c A i ha]

/-- The token of device `c`'s due `i`. -/
def tok (c : Dev nD) (i : Due) : sProp 𝕄 := dutyTok ER ((dDev i c : Thread nD τ), csem (dKind i)) 0 (dDuty i)

/-- The position on an own semaphore before its round, -/
def pos (c : Dev nD) (k : Fin 21) : sProp 𝕄 := atPos ER ((c : Thread nD τ), csem k) 0 ∅ 0
/-- and after everything that will ever arrive there. -/
def fin (c : Dev nD) (k : Fin 21) : sProp 𝕄 :=
  iprop(∃ r, ⌜∀ r', r ≤ r' → (sched (F := F) m ρ).duties ((c : Thread nD τ), csem k) r' = ∅⌝ ∗ atPos ER ((c : Thread nD τ), csem k) r ∅ 0)
/-- The credit to wait for one copy on an own semaphore. -/
def crd (c : Dev nD) (k : Fin 21) : sProp 𝕄 := cred (tallyAt ((c : Thread nD τ), csem k) () N)

/-- A semaphore that is finished is at zero. -/
theorem fin_close (c : Dev nD) (k : Fin 21) : iprop(records m ρ K ∗ fin m ρ c k) ⊢ |={Set.univ}=> semVal ((c : Thread nD τ), csem k) 0 := by
  unfold fin
  iintro ⟨#HR, %r, %hr, H⟩
  iapply (Rounds.cell_close ER (sched m ρ) (Set.mem_univ (K (c, k))) (fun h => h) hr)
  isplitr
  · iapply (inv_of m ρ K c k); iexact HR
  iexact H

/-- An unused semaphore is finished from the start. -/
theorem fin_unused (c : Dev nD) (k : Fin 21) (hk : k ≠ 0) (ha : ¬ kAct c k = true) : pos c k ⊢ fin m ρ c k := by
  unfold pos fin
  iintro H
  iexists 0
  isplitr
  · ipureintro
    intro r' _
    rcases Nat.eq_zero_or_pos r' with rfl | h
    · exact (duties_cell m ρ c k).trans (kDuties_none c k hk ha)
    · exact duties_later m ρ _ r' h
  iexact H

theorem fin_done (c : Dev nD) (k : Fin 21) : atPos ER ((c : Thread nD τ), csem k) (0 + 1) ∅ 0 ⊢ fin m ρ c k := by
  unfold fin
  iintro H
  iexists (0 + 1)
  isplitr
  · ipureintro; exact duties_later m ρ _
  iexact H

section Ops

variable {α : Type} {Q : α → sProp (MT nD τ sig Unit (Elt F) ℕ UU ℕ)} {k : PUnit → Prog (TpuEff nD τ sig (Elt F) Λ₀ .tc) α}

/-- A barrier signal pays its due with the payload. -/
theorem signal_at (c n e : Dev nD) (i : Due) (A : Finset Due) {amt : ℕ} {sm : Sem sig} (hn : n = e) (he : dDev i c = e) (hk : dKind i = 0)
    (hi : i.val < 14) (ha : dAct i c = true) (hA : i ∉ A) (hamt : amt = 1) (hsm : sm = barS) :
    iprop(records m ρ K ∗ ow c A ∗ tok c i ∗ barPay e (dDuty i))
      ⊢ iprop((ow c (insert i A) -∗ WP c (k ⟨⟩) Q) -∗ WP c (.op (.semSignal (Dev.tc n : Thread nD τ) sm amt) k) Q) := by
  subst hn hamt hsm he
  unfold ow tok
  rw [hk]
  iintro ⟨#HR, ⟨%W, HO⟩, Ht, Hp⟩ Hk
  iapply (Rounds.wp_signal (defs := defs₀ (F := F)) 𝒱₀ ER (sched m ρ) (c : Thread nD τ) none (dst := (dDev i c : Thread nD τ)) (sem := barS) (κ := K (dDev i c, 0)) (r := 0)
      (d := dDuty i) (by rw [show (sched (F := F) m ρ).duties ((dDev i c : Thread nD τ), .reg barS) 0 = _ from duties_cell m ρ (dDev i c) 0, ← hk]; exact due_mem i c ha)
      (amount_cell m ρ (dDev i c) 0 (dDuty i)) () (O₀ := owe c A) (owe c (insert i A))
      (by rw [owe_pay c A i hi ha hA]; unfold dTally; rw [hk]; rfl) (W := W)) $$ [HO Ht Hp]
  · isplitr; · iapply (inv_of m ρ K (dDev i c) 0); iexact HR
    isplitl [HO]; · iexact HO
    isplitl [Ht]; · iexact Ht
    isplitl [Hp]
    · rw [show (sched (F := F) m ρ).payload ((dDev i c : Thread nD τ), .reg barS) 0 (dDuty i) = barPay (dDev i c) (dDuty i) from payload_cell m ρ (dDev i c) 0 (dDuty i)]
      iexact Hp
    iapply (reached_of m ρ K (dDev i c) 0); iexact HR
  iintro HO
  iapply Hk
  iexists W; iexact HO

/-- A copy to another device pays its arrival there and its departure here: it takes the source region at some share and the
    destination at any contents, and leaves the credit to wait for the departure. -/
theorem send_at (c n e : Dev nD) (i j : Due) (A : Finset Due) (q : PosShare TreeShare) (v : Vec F S512x256 .f32)
    {src dst src' dst' : Memref sig .tc .vmem S512x256 .f32} {sS sR : DmaSem sig}
    {hsc : (dst : Memref sig (Dev.tc n : Thread nD τ).2.kind .vmem S512x256 .f32).view.ref.isScScratch = false}
    {hsrc : src.view.WordExact} {hdst : dst.view.WordExact}
    {hsem : DmaTarget.Typed .vmem (.dma sR) (.remote (Dev.tc n : Thread nD τ) (dst : Memref sig .tc .vmem S512x256 .f32) (.dma sS) hsc)}
    (hn : n = e) (he : dDev i c = e) (hj : dDev j c = c) (hs : src = src') (hd : dst = dst')
    (hS : (SemLoc.dma sS : SemLoc sig) = csem (dKind j)) (hR : (SemLoc.dma sR : SemLoc sig) = csem (dKind i))
    (hki : dKind i ≠ 0) (hkj : dKind j ≠ 0)
    (hpi : kPay m ρ e (dDuty i) (dKind i) = owns (e : Thread nD τ) dst' fullShare v)
    (hpj : kPay m ρ c (dDuty j) (dKind j) = owns (c : Thread nD τ) src' q v)
    (hN : dst'.view.dmaCredit = N)
    (hi : i.val < 14) (ha : dAct i c = true) (hb : dAct j c = true) (hA : i ∉ A) :
    iprop(records m ρ K ∗ ow c A ∗ tok c i ∗ tok c j ∗ owns (c : Thread nD τ) src' q v ∗ anyAt e dst')
      ⊢ iprop((iprop(crd c (dKind j) ∗ ow c (insert i A)) -∗ WP c (k ⟨⟩) Q)
          -∗ WP c (.op (.enqueueDma src (.remote (Dev.tc n : Thread nD τ) dst (.dma sS) hsc) (.dma sR) hsrc hdst hsem) k) Q) := by
  subst hn he hs hd
  unfold ow tok crd
  rw [hj]
  rw [← hS, ← hR]
  have hdi : (sched (F := F) m ρ).duties ((dDev i c : Thread nD τ), SemLoc.dma sR) 0 = kDuties (dDev i c) (dKind i) := by rw [hR]; exact duties_cell m ρ (dDev i c) (dKind i)
  have hdj : (sched (F := F) m ρ).duties ((c : Thread nD τ), SemLoc.dma sS) 0 = kDuties c (dKind j) := by rw [hS]; exact duties_cell m ρ c (dKind j)
  have hai : (sched (F := F) m ρ).amount ((dDev i c : Thread nD τ), SemLoc.dma sR) 0 (dDuty i) = N := by
    rw [hR]; exact (amount_cell m ρ (dDev i c) (dKind i) (dDuty i)).trans (kAmt_N _ hki)
  have haj : (sched (F := F) m ρ).amount ((c : Thread nD τ), SemLoc.dma sS) 0 (dDuty j) = N := by
    rw [hS]; exact (amount_cell m ρ c (dKind j) (dDuty j)).trans (kAmt_N _ hkj)
  have hqi : (sched (F := F) m ρ).payload ((dDev i c : Thread nD τ), SemLoc.dma sR) 0 (dDuty i) = owns (dDev i c : Thread nD τ) dst fullShare v := by
    rw [hR]; exact (payload_cell m ρ (dDev i c) (dKind i) (dDuty i)).trans hpi
  have hqj : (sched (F := F) m ρ).payload ((c : Thread nD τ), SemLoc.dma sS) 0 (dDuty j) = owns (c : Thread nD τ) src q v := by
    rw [hS]; exact (payload_cell m ρ c (dKind j) (dDuty j)).trans hpj
  iintro ⟨#HR, ⟨%W, HO⟩, Hti, Htj, Hsrc, Hdst⟩ Hk
  ihave Hsrc' := (show owns (c : Thread nD τ) src q v ⊢ iprop(∃ f, ⌜src.view.read (Elt F) f = v⌝ ∗ (src.view.loc (c : Thread nD τ) ↦[src.view.set]{q} f)) from .rfl) $$ Hsrc
  icases Hsrc' with ⟨%fs, %hfs, Hsrc⟩
  ihave Hdst' := (show (anyAt (dDev i c) dst : sProp 𝕄) ⊢ iprop(∃ f, ⌜True⌝ ∗ (dst.view.loc (dDev i c : Thread nD τ) ↦[dst.view.set]{fullShare} f)) from .rfl) $$ Hdst
  icases Hdst' with ⟨%fd, -, Hdst⟩
  have hm1 : dDuty j ∈ (sched (F := F) m ρ).duties ((c : Thread nD τ), SemLoc.dma sS) 0 := by rw [hdj]; have := due_mem j c hb; rwa [hj] at this
  have hm2 : dDuty i ∈ (sched (F := F) m ρ).duties ((dDev i c : Thread nD τ), SemLoc.dma sR) 0 := by rw [hdi]; exact due_mem i c ha
  have ho : owe c A = owe c (insert i A) + tallyAt ((dDev i c : Thread nD τ), SemLoc.dma sR) () N := by
    rw [owe_pay c A i hi ha hA]; unfold dTally kcell; rw [kAmt_N _ hki, ← hR]
  have hp1 : (src.view.loc (c : Thread nD τ) ↦[src.view.set]{q} fs) ⊢ (sched (F := F) m ρ).payload ((c : Thread nD τ), SemLoc.dma sS) 0 (dDuty j) := by
    rw [hqj]; unfold owns
    iintro H; iexists fs; isplitr; · ipureintro; exact hfs
    iexact H
  have hp2 : (dst.view.loc (dDev i c : Thread nD τ) ↦[dst.view.set]{fullShare} (dst.view.write (Elt F) fd (src.view.read (Elt F) fs) Finset.univ))
      ⊢ (sched (F := F) m ρ).payload ((dDev i c : Thread nD τ), SemLoc.dma sR) 0 (dDuty i) := by
    rw [hqi]; unfold owns
    iintro H; iexists (dst.view.write (Elt F) fd (src.view.read (Elt F) fs) Finset.univ)
    isplitr; · ipureintro; exact (View.read_write_univ _ _).trans hfs
    iexact H
  iapply (Rounds.wp_send_pointsTo (defs := defs₀ (F := F)) 𝒱₀ ER (sched m ρ) (c : Thread nD τ) none (c' := (dDev i c : Thread nD τ))
      (src := src) (dst := dst) (sS := .dma sS) (sem := .dma sR) (hsc := hsc) (hsrc := hsrc) (hdst := hdst) (hsem := hsem) (q := q)
      (κ₁ := K (c, dKind j)) (κ₂ := K (dDev i c, dKind i)) (r₁ := 0) (r₂ := 0) (d₁ := dDuty j) (d₂ := dDuty i) (fs := fs) (fd := fd)
      hm1 hm2 () () N hN haj hai (O₀ := owe c A) (owe c (insert i A)) ho (W := W) hp1 hp2) $$ [HO Hti Htj Hsrc Hdst]
  · isplitr; · rw [hS]; iapply (inv_of m ρ K c (dKind j)); iexact HR
    isplitr; · rw [hR]; iapply (inv_of m ρ K (dDev i c) (dKind i)); iexact HR
    isplitl [Hsrc]; · iexact Hsrc
    isplitl [Hdst]; · iexact Hdst
    isplitl [HO]; · iexact HO
    isplitl [Htj]; · iexact Htj
    isplitr; · rw [hS]; iapply (reached_of m ρ K c (dKind j)); iexact HR
    isplitl [Hti]; · iexact Hti
    rw [hR]; iapply (reached_of m ρ K (dDev i c) (dKind i)); iexact HR
  iintro ⟨Hc, HO⟩
  iapply Hk
  isplitl [Hc]; · iexact Hc
  iexists W; iexact HO

/-- A wait on an own copy semaphore: its payload comes, and the semaphore is finished. -/
theorem wait_at (c : Dev nD) (kk : Fin 21) (A : Finset Due)
    {src dst : Memref sig .tc .vmem S512x256 .f32} {sm : DmaSem sig} {hsrc : src.view.WordExact} {hdst : dst.view.WordExact}
    (hS : (SemLoc.dma sm : SemLoc sig) = csem kk) (hkk : kk ≠ 0) (ha : kAct c kk = true) (hN : dst.view.dmaCredit = N)
    (hlev : ∀ i : Due, i.val < 14 → dAct i c = true → i ∉ A → kLev c kk < kLev (dDev i c) (dKind i)) :
    iprop(records m ρ K ∗ ow c A ∗ crd c kk ∗ pos c kk)
      ⊢ iprop((iprop(ow c A ∗ fin m ρ c kk ∗ kPay m ρ c 0 kk) -∗ WP c (k ⟨⟩) Q)
          -∗ WP c (.op (.waitDma2 sm src dst hsrc hdst) k) Q) := by
  unfold ow crd pos
  rw [← hN]
  have hex : (sched (F := F) m ρ).expect ((c : Thread nD τ), csem kk) 0 = N := by
    refine (expect_cell m ρ c kk).trans ?_
    rw [kDuties_one c kk hkk ha, kAmt_N kk hkk]; simp
  have hrest : bigSep ((sched (F := F) m ρ).duties ((c : Thread nD τ), csem kk) 0 \ ∅) (fun d => (sched (F := F) m ρ).payload ((c : Thread nD τ), csem kk) 0 d)
      = kPay m ρ c 0 kk := by
    rw [Finset.sdiff_empty, show (sched (F := F) m ρ).duties ((c : Thread nD τ), csem kk) 0 = {0} from (duties_cell m ρ c kk).trans (kDuties_one c kk hkk ha),
      bigSep_singleton]
    exact payload_cell m ρ c kk 0
  iintro ⟨#HR, ⟨%W, HO⟩, Hc, Hat⟩ Hk
  iapply (Rounds.wp_wait_rest_token (defs := defs₀ (F := F)) 𝒱₀ ER (sched m ρ) (c : Thread nD τ) none (κ := K (c, kk)) (sm := csem kk) (k' := dst.view.dmaCredit)
      (by rw [← hS]; exact wpE_waitDma2_eq 𝒱₀ (c : Thread nD τ) none Set.univ) (Set.mem_univ _) () (O := owe c A) (W := W) (R := 0) (m := 0) (T := ∅)
      (by rw [Nat.zero_add, hex, hN])) $$ [Hc HO Hat]
  · isplitr; · iapply (inv_of m ρ K c kk); iexact HR
    isplitl [Hc]; · iexact Hc
    isplitl [HO]; · iexact HO
    isplitr; · iapply (mayWait_levs (F := F) c kk A hlev); iapply (levs_of m ρ K); iexact HR
    iexact Hat
  rw [hrest]
  iintro ⟨HO, Hat, -, Hp⟩
  iapply Hk
  isplitl [HO]; · iexists _; iexact HO
  isplitl [Hat]; · iapply (fin_done m ρ c kk); iexact Hat
  iexact Hp

/-- How far the barrier has been waited for: before the last wait, some of its payloads have come; after it all have. -/
def barAt (c : Dev nD) (n : ℕ) : sProp 𝕄 :=
  if n < (kDuties c 0).card then
    iprop(∃ T : Finset (Fin 4), ⌜T ⊆ kDuties c 0⌝ ∗ atPos ER ((c : Thread nD τ), .reg barS) 0 T n ∗ bigSep T (fun d => barPay c d))
  else iprop(fin m ρ c 0 ∗ bigSep (kDuties c 0) (fun d => barPay c d))

theorem barWait_at (c : Dev nD) (n n' : ℕ) (A : Finset Due) {amt : ℕ} {sm : Sem sig} (hsm : sm = barS) (hamt : n + amt = n') (hpos : 0 < amt)
    (hle : n' ≤ (kDuties c 0).card)
    (hlev : ∀ i : Due, i.val < 14 → dAct i c = true → i ∉ A → kLev c 0 < kLev (dDev i c) (dKind i)) :
    iprop(records m ρ K ∗ ow c A ∗ cred (tallyAt ((c : Thread nD τ), .reg barS) () amt) ∗ barAt m ρ c n)
      ⊢ iprop((iprop(ow c A ∗ barAt m ρ c n') -∗ WP c (k ⟨⟩) Q) -∗ WP c (.op (.semWait sm amt) k) Q) := by
  subst hsm hamt
  have hd : (sched (F := F) m ρ).duties ((c : Thread nD τ), .reg barS) 0 = kDuties c 0 := duties_cell m ρ c 0
  have hpay : (fun d => (sched (F := F) m ρ).payload ((c : Thread nD τ), .reg barS) 0 d) = fun d => barPay c d :=
    funext fun d => payload_cell m ρ c 0 d
  have hex : (sched (F := F) m ρ).expect ((c : Thread nD τ), .reg barS) 0 = (kDuties c 0).card := by
    refine (expect_cell m ρ c 0).trans ?_
    show (kDuties c 0).card * 1 = _; rw [Nat.mul_one]
  have hmw : records m ρ K ⊢ MayWait (c : Thread nD τ) (.reg barS) () (owe c A) := (levs_of m ρ K).trans (mayWait_levs (F := F) c 0 A hlev)
  unfold ow
  rw [show barAt m ρ c n = _ from if_pos (by omega)]
  iintro ⟨#HR, ⟨%W, HO⟩, Hc, %T, %hT, Hat, HT⟩ Hk
  rcases Nat.lt_or_ge (n + amt) (kDuties c 0).card with hlt | hge
  · rw [show barAt m ρ c (n + amt) = _ from if_pos hlt]
    iapply (Rounds.wp_wait (defs := defs₀ (F := F)) 𝒱₀ ER (sched m ρ) (c : Thread nD τ) none (κ := K (c, 0)) (sm := .reg barS) (k' := amt)
        (wpE_semWait_eq 𝒱₀ (c : Thread nD τ) none Set.univ) (Set.mem_univ _) (cr := Finsupp.single () amt) (O := owe c A) (W := W) {(SemLoc.reg barS, ())} (R := 0) (m := n) (T := T)
        (Util.total_single _ _) (image_single_subset _ _ _)) $$ [Hc HO Hat]
    · isplitr; · iapply (inv_of m ρ K c 0); iexact HR
      isplitl [Hc]; · iexact Hc
      isplitl [HO]; · iexact HO
      isplitr; · iapply hmw; iexact HR
      iexact Hat
    rw [hd, hpay]
    iintro %S ⟨%hS, HO, Hat, HS⟩
    iapply Hk
    isplitl [HO]; · iexists _; iexact HO
    iexists S
    isplitr; · ipureintro; exact hS.2.1
    isplitl [Hat]; · iexact Hat
    have hu : bigSep S (fun d => barPay (F := F) c d) = iprop((bigSep T fun d => barPay c d) ∗ bigSep (S \ T) fun d => barPay c d) := by
      have := bigSep_union (Φ := fun d => barPay (F := F) c d) (Finset.disjoint_sdiff (s := T) (t := S))
      rwa [Finset.union_sdiff_of_subset hS.1] at this
    rw [hu]
    isplitl [HT]; · iexact HT
    iexact HS
  · rw [show barAt m ρ c (n + amt) = _ from if_neg (by omega)]
    iapply (Rounds.wp_wait_rest_token (defs := defs₀ (F := F)) 𝒱₀ ER (sched m ρ) (c : Thread nD τ) none (κ := K (c, 0)) (sm := .reg barS) (k' := amt)
        (wpE_semWait_eq 𝒱₀ (c : Thread nD τ) none Set.univ) (Set.mem_univ _) () (O := owe c A) (W := W) (R := 0) (m := n) (T := T)
        (by rw [hex]; omega)) $$ [Hc HO Hat]
    · isplitr; · iapply (inv_of m ρ K c 0); iexact HR
      isplitl [Hc]; · iexact Hc
      isplitl [HO]; · iexact HO
      isplitr; · iapply hmw; iexact HR
      iexact Hat
    rw [hd, hpay]
    iintro ⟨HO, Hat, -, HS⟩
    iapply Hk
    isplitl [HO]; · iexists _; iexact HO
    isplitl [Hat]; · iapply (fin_done m ρ c 0); iexact Hat
    have hu : bigSep (kDuties c 0) (fun d => barPay (F := F) c d) = iprop((bigSep T fun d => barPay c d) ∗ bigSep (kDuties c 0 \ T) fun d => barPay c d) := by
      have := bigSep_union (Φ := fun d => barPay (F := F) c d) (Finset.disjoint_sdiff (s := T) (t := kDuties c 0))
      rwa [Finset.union_sdiff_of_subset hT] at this
    rw [hu]
    isplitl [HT]; · iexact HT
    iexact HS

end Ops

end Cert.LaneSum

end
-- ==== Proof.Program.lean ====
/-
The kernel's body regrouped: each guarded statement of a chain, of the meeting of the two chains and of the closing waits as
one program over the direction `b` and the column half `s`, and the printed body as a sequence of them.
-/
module

public import proofs.«01_k».proof.Proof.Rules

@[expose] public section

set_option maxRecDepth 100000

noncomputable section

namespace Cert.LaneSum

open Cert.KernelIdeal Cert.KernelIdeal.Gen
open Idealize.ShloMosaic
open Idealize.ShloMosaic.TcCoe
open Idealize.SL.Sem

variable {F : FTy → Type} [FloatOps F]

/-- A program of the kernel on one core. Each statement below takes the program that follows it. -/
abbrev Code (F : FTy → Type) (α : Type) : Type 1 := Prog (TpuEff nD τ sig (Elt F) Λ₀ .tc) α

variable {α β : Type}

/-- An offset into a whole block under a guard, -/
abbrev Offs (g : BitVec 1) : Type := g = 1#1 → Fin 2 → Nat
/-- lying in bounds. -/
abbrev InB {g : BitVec 1} (o : Offs g) : Prop := ∀ (h : g = 1#1) (a : Fin 2), o h a + S512x256.size a ≤ S2048x512.size a

set_option backward.proofsInPublic true in
/-- The kernel's DMA semaphores by number. -/
def dS (j : ℕ) : DmaSem sig := (⟨j % 22, Nat.mod_lt _ (by decide)⟩ : Fin 22)
abbrev sndS (b : Bool) (s : Fin 2) : DmaSem sig := dS (2 + 4 * b.toNat + s.val)
abbrev rcvS (b : Bool) (s : Fin 2) : DmaSem sig := dS (4 + 4 * b.toNat + s.val)
abbrev xsS (i : Fin 6) : DmaSem sig := dS (10 + i.val)
abbrev xrS (i : Fin 6) : DmaSem sig := dS (16 + i.val)

theorem sndS_eq (b : Bool) (s : Fin 2) : (SemLoc.dma (sndS b s) : SemLoc sig) = csem (kSend b s) := by revert b s; decide
theorem rcvS_eq (b : Bool) (s : Fin 2) : (SemLoc.dma (rcvS b s) : SemLoc sig) = csem (kRecv b s) := by revert b s; decide
theorem xsS_eq (i : Fin 6) : (SemLoc.dma (xsS i) : SemLoc sig) = csem (kXs i) := by revert i; decide
theorem xrS_eq (i : Fin 6) : (SemLoc.dma (xrS i) : SemLoc sig) = csem (kXr i) := by revert i; decide

theorem out_wordExact (b : Bool) (s : Fin 2) : (outH b s).view.WordExact := by cases b <;> exact View.wordExact_bits rfl
theorem in_wordExact (b : Bool) (s : Fin 2) : (inH b s).view.WordExact := by cases b <;> exact View.wordExact_bits rfl
theorem in_scScratch (b : Bool) (s : Fin 2) : (inH b s).view.ref.isScScratch = false := by cases b <;> rfl

/-- The first device of a chain copies its own rows. -/
def firstP (b : Bool) (s : Fin 2) (g : BitVec 1) (o : Offs g) (p : InB o) (k : Code F α) : Code F α :=
  if h : g = 1#1 then do
    let x : Vec F S512x256 .f32 ← Prog.lift (.load xM (Rect.unit (s := S2048x512) (o h) S512x256.size (p h)).toLoadRect (View.loadsAt_vmem h_S512x256))
    let _y : Vec F S512x256 .f32 ← Prog.lift (.load (outM b) (hRect s).toLoadRect (by cases b <;> exact View.loadsAt_vmem h_S512x256))
    Prog.lift (.store (outM b) (hRect s) (k0_pay1 x) Finset.univ (by cases b <;> exact View.stores_vmem_bits_univ h_S512x256 rfl) (.inl rfl))
    k
  else k

/-- Every other device waits for the running sum and adds its own rows. -/
def addP (b : Bool) (s : Fin 2) (g : BitVec 1) (o : Offs g) (p : InB o) (k : Code F α) : Code F α :=
  if h : g = 1#1 then do
    Prog.lift (.waitDma2 (rcvS b s) (outH b s) (inH b s) (out_wordExact b s) (in_wordExact b s))
    let y : Vec F S512x256 .f32 ← Prog.lift (.load (inM b) (hRect s).toLoadRect (by cases b <;> exact View.loadsAt_vmem h_S512x256))
    let x : Vec F S512x256 .f32 ← Prog.lift (.load xM (Rect.unit (s := S2048x512) (o h) S512x256.size (p h)).toLoadRect (View.loadsAt_vmem h_S512x256))
    let _z : Vec F S512x256 .f32 ← Prog.lift (.load (outM b) (hRect s).toLoadRect (by cases b <;> exact View.loadsAt_vmem h_S512x256))
    Prog.lift (.store (outM b) (hRect s) (k0_pay2 y x) Finset.univ (by cases b <;> exact View.stores_vmem_bits_univ h_S512x256 rfl) (.inl rfl))
    k
  else k

/-- Every device but the last sends its running sum on. -/
def sendP (b : Bool) (s : Fin 2) (g : BitVec 1) (n : g = 1#1 → Dev nD) (k : Code F α) : Code F α :=
  if h : g = 1#1 then do
    Prog.lift (.enqueueDma (outH b s) (.remote (Dev.tc (n h)) (inH b s) (.dma (sndS b s)) (in_scScratch b s)) (.dma (rcvS b s))
      (out_wordExact b s) (in_wordExact b s) ⟨⟨rfl, Or.inl rfl⟩, trivial⟩)
    k
  else k

/-- The two running sums are added where they meet; -/
def meetP (s : Fin 2) (g : BitVec 1) (o : Offs g) (p : InB o) (k : Code F α) : Code F α :=
  if h : g = 1#1 then do
    let y : Vec F S512x256 .f32 ← Prog.lift (.load (outM false) (hRect s).toLoadRect (View.loadsAt_vmem h_S512x256))
    let z : Vec F S512x256 .f32 ← Prog.lift (.load (inM true) (hRect s).toLoadRect (View.loadsAt_vmem h_S512x256))
    let _w : Vec F S512x256 .f32 ← Prog.lift (.load oM (Rect.unit (s := S2048x512) (o h) S512x256.size (p h)).toLoadRect (View.loadsAt_vmem h_S512x256))
    Prog.lift (.store oM (Rect.unit (s := S2048x512) (o h) S512x256.size (p h)) (k0_pay9 y z) Finset.univ (View.stores_vmem_bits_univ h_S512x256 rfl) (.inl rfl))
    k
  else k

/-- the topmost device's upward running sum is the lane's sum already. -/
def lastP (s : Fin 2) (g : BitVec 1) (o : Offs g) (p : InB o) (k : Code F α) : Code F α :=
  if h : g = 1#1 then do
    let y : Vec F S512x256 .f32 ← Prog.lift (.load (outM false) (hRect s).toLoadRect (View.loadsAt_vmem h_S512x256))
    let _w : Vec F S512x256 .f32 ← Prog.lift (.load oM (Rect.unit (s := S2048x512) (o h) S512x256.size (p h)).toLoadRect (View.loadsAt_vmem h_S512x256))
    Prog.lift (.store oM (Rect.unit (s := S2048x512) (o h) S512x256.size (p h)) y Finset.univ (View.stores_vmem_bits_univ h_S512x256 rfl) (.inl rfl))
    k
  else k

/-- Both column halves' departures along direction `b` are waited for. -/
def drainP (b : Bool) (g : BitVec 1) (k : Code F α) : Code F α :=
  if h : g = 1#1 then do
    Prog.lift (.waitDma2 (sndS b 0) (inH b 0) (outH b 0) (in_wordExact b 0) (out_wordExact b 0))
    Prog.lift (.waitDma2 (sndS b 1) (inH b 1) (outH b 1) (in_wordExact b 1) (out_wordExact b 1))
    k
  else k

/-- A barrier signal and a barrier wait under a guard. -/
def signalP (g : BitVec 1) (n : g = 1#1 → Dev nD) (k : Code F α) : Code F α :=
  if h : g = 1#1 then do
    semSignalWord (n h) barS 1#32
    k
  else k
def barWaitP (g : BitVec 1) (k : Code F α) : Code F α :=
  if h : g = 1#1 then do
    semWaitWord barS 1#32
    k
  else k

/-- The same column half along both directions, in the order given. -/
def pairP (b : Bool) (s : Fin 2) (g g1 g2 g3 g4 g5 g6 : BitVec 1) (o1 : g = 1#1 → Offs g1) (p1 : ∀ h, InB (o1 h)) (o2 : g = 1#1 → Offs g2) (p2 : ∀ h, InB (o2 h))
    (n3 : g = 1#1 → g3 = 1#1 → Dev nD) (o4 : g = 1#1 → Offs g4) (p4 : ∀ h, InB (o4 h)) (o5 : g = 1#1 → Offs g5) (p5 : ∀ h, InB (o5 h))
    (n6 : g = 1#1 → g6 = 1#1 → Dev nD) (k : Code F α) : Code F α :=
  if h : g = 1#1 then
    firstP b s g1 (o1 h) (p1 h) <| addP b s g2 (o2 h) (p2 h) <| sendP b s g3 (n3 h) <|
      firstP (!b) s g4 (o4 h) (p4 h) <| addP (!b) s g5 (o5 h) (p5 h) <| sendP (!b) s g6 (n6 h) k
  else k

/-- The device's place in its lane as the kernel's word. -/
abbrev zW (c : Dev nD) : BitVec 32 := Scalar.remsi (Scalar.divsi (Dev.word c) 1#32) 4#32
abbrev gLt (c : Dev nD) : BitVec 1 := Scalar.cmpi .ne (Scalar.extui (Scalar.cmpi .slt (zW c) 3#32) : BitVec 32) 0#32
abbrev gGt (c : Dev nD) : BitVec 1 := Scalar.cmpi .ne (Scalar.extui (Scalar.cmpi .sgt (zW c) 0#32) : BitVec 32) 0#32

/-- A copy of row block and half `o` of the result to another device. -/
def xsendP (i : Fin 6) (o : Fin 2 → Nat) (p : ∀ a, o a + S512x256.size a ≤ S2048x512.size a) (n : Dev nD) (k : Code F α) : Code F α := do
  Prog.lift (.enqueueDma (oM.slice (Rect.unit (s := S2048x512) o S512x256.size p) (fun _ => rfl))
    (.remote (Dev.tc n) (oM.slice (Rect.unit (s := S2048x512) o S512x256.size p) (fun _ => rfl)) (.dma (xsS i)))
    (.dma (xrS i)) (View.wordExact_bits rfl) (View.wordExact_bits rfl) ⟨⟨rfl, Or.inl rfl⟩, trivial⟩)
  k
/-- A wait for such a copy. -/
def xwaitP (sm : DmaSem sig) (o : Fin 2 → Nat) (p : ∀ a, o a + S512x256.size a ≤ S2048x512.size a) (k : Code F α) : Code F α := do
  Prog.lift (.waitDma2 sm (oM.slice (Rect.unit (s := S2048x512) o S512x256.size p) (fun _ => rfl))
    (oM.slice (Rect.unit (s := S2048x512) o S512x256.size p) (fun _ => rfl)) (View.wordExact_bits rfl) (View.wordExact_bits rfl))
  k
/-- An unguarded barrier signal, and an unguarded barrier wait for two. -/
def signal1P (n : Dev nD) (k : Code F α) : Code F α := do
  semSignalWord n barS 1#32
  k
def barWait2P (k : Code F α) : Code F α := do
  semWaitWord barS 2#32
  k

/-- The barrier: a signal to each neighbour, and the waits for theirs. -/
def barP (c : Dev nD) (k : Code F α) : Code F α :=
  signal1P (⟨k0_dev1 c, k0_dev1_lt c⟩ : Dev nD) <|
  signal1P (⟨k0_dev2 c, k0_dev2_lt c⟩ : Dev nD) <|
  signalP (k0_cond1 c) (fun h => ⟨k0_dev3 c, k0_dev3_lt c h⟩) <|
  signalP (k0_cond2 c) (fun h => ⟨k0_dev4 c, k0_dev4_lt c h⟩) <|
  barWait2P <|
  barWaitP (gLt c) <|
  barWaitP (gGt c) <|
  k

/-- The first column half along the lane, up to the lane's sum, -/
def seg0P (c : Dev nD) (k : Code F α) : Code F α :=
  pairP false 0 (k0_cond5 c) (k0_cond6 c) (k0_cond7 c) (k0_cond8 c) (k0_cond9 c) (k0_cond10 c) (k0_cond11 c)
    (fun _ _ => k0_off1 c) (fun h h' => k0_off1_inb c h h') (fun _ _ => k0_off2 c) (fun h h' => k0_off2_inb c h h')
    (fun h h' => ⟨k0_dev5 c, k0_dev5_lt c h h'⟩)
    (fun _ _ => k0_off3 c) (fun h h' => k0_off3_inb c h h') (fun _ _ => k0_off4 c) (fun h h' => k0_off4_inb c h h')
    (fun h h' => ⟨k0_dev6 c, k0_dev6_lt c h h'⟩) <|
  pairP true 0 (k0_cond12 c) (k0_cond13 c) (k0_cond14 c) (k0_cond15 c) (k0_cond16 c) (k0_cond17 c) (k0_cond18 c)
    (fun _ _ => k0_off5 c) (fun h h' => k0_off5_inb c h h') (fun _ _ => k0_off6 c) (fun h h' => k0_off6_inb c h h')
    (fun h h' => ⟨k0_dev7 c, k0_dev7_lt c h h'⟩)
    (fun _ _ => k0_off7 c) (fun h h' => k0_off7_inb c h h') (fun _ _ => k0_off8 c) (fun h h' => k0_off8_inb c h h')
    (fun h h' => ⟨k0_dev8 c, k0_dev8_lt c h h'⟩) <|
  meetP 0 (k0_cond19 c) (fun _ => k0_off9 c) (fun h => k0_off9_inb c h) <|
  lastP 0 (k0_cond20 c) (fun _ => k0_off10 c) (fun h => k0_off10_inb c h) <|
  k

/-- its copies to the other lanes, -/
def send0P (c : Dev nD) (k : Code F α) : Code F α :=
  xsendP 0 (k0_off11 c) (k0_off11_inb c) ⟨k0_dev9 c, k0_dev9_lt c⟩ <|
  xsendP 2 (k0_off11 c) (k0_off11_inb c) ⟨k0_dev10 c, k0_dev10_lt c⟩ <|
  k

/-- the second column half, -/
def seg1P (c : Dev nD) (k : Code F α) : Code F α :=
  pairP false 1 (k0_cond21 c) (k0_cond22 c) (k0_cond23 c) (k0_cond24 c) (k0_cond25 c) (k0_cond26 c) (k0_cond27 c)
    (fun _ _ => k0_off12 c) (fun h h' => k0_off12_inb c h h') (fun _ _ => k0_off13 c) (fun h h' => k0_off13_inb c h h')
    (fun h h' => ⟨k0_dev11 c, k0_dev11_lt c h h'⟩)
    (fun _ _ => k0_off14 c) (fun h h' => k0_off14_inb c h h') (fun _ _ => k0_off15 c) (fun h h' => k0_off15_inb c h h')
    (fun h h' => ⟨k0_dev12 c, k0_dev12_lt c h h'⟩) <|
  pairP true 1 (k0_cond28 c) (k0_cond29 c) (k0_cond30 c) (k0_cond31 c) (k0_cond32 c) (k0_cond33 c) (k0_cond34 c)
    (fun _ _ => k0_off16 c) (fun h h' => k0_off16_inb c h h') (fun _ _ => k0_off17 c) (fun h h' => k0_off17_inb c h h')
    (fun h h' => ⟨k0_dev13 c, k0_dev13_lt c h h'⟩)
    (fun _ _ => k0_off18 c) (fun h h' => k0_off18_inb c h h') (fun _ _ => k0_off19 c) (fun h h' => k0_off19_inb c h h')
    (fun h h' => ⟨k0_dev14 c, k0_dev14_lt c h h'⟩) <|
  meetP 1 (k0_cond35 c) (fun _ => k0_off20 c) (fun h => k0_off20_inb c h) <|
  lastP 1 (k0_cond36 c) (fun _ => k0_off21 c) (fun h => k0_off21_inb c h) <|
  k

/-- its copies. -/
def send1P (c : Dev nD) (k : Code F α) : Code F α :=
  xsendP 1 (k0_off22 c) (k0_off22_inb c) ⟨k0_dev15 c, k0_dev15_lt c⟩ <|
  xsendP 4 (k0_off22 c) (k0_off22_inb c) ⟨k0_dev16 c, k0_dev16_lt c⟩ <|
  k

/-- The copies of what arrived, each after its arrival. -/
def relayP (c : Dev nD) (k : Code F α) : Code F α :=
  xwaitP (xrS 0) (k0_off11 c) (k0_off11_inb c) <|
  xsendP 3 (k0_off23 c) (k0_off23_inb c) ⟨k0_dev17 c, k0_dev17_lt c⟩ <|
  xwaitP (xrS 1) (k0_off22 c) (k0_off22_inb c) <|
  xsendP 5 (k0_off24 c) (k0_off24_inb c) ⟨k0_dev18 c, k0_dev18_lt c⟩ <|
  k

/-- The remaining waits between lanes. -/
def closeP (c : Dev nD) (k : Code F α) : Code F α :=
  xwaitP (xrS 2) (k0_off11 c) (k0_off11_inb c) <|
  xwaitP (xrS 4) (k0_off22 c) (k0_off22_inb c) <|
  xwaitP (xrS 3) (k0_off23 c) (k0_off23_inb c) <|
  xwaitP (xrS 5) (k0_off24 c) (k0_off24_inb c) <|
  xwaitP (xsS 0) (k0_off11 c) (k0_off11_inb c) <|
  xwaitP (xsS 1) (k0_off22 c) (k0_off22_inb c) <|
  xwaitP (xsS 2) (k0_off11 c) (k0_off11_inb c) <|
  xwaitP (xsS 3) (k0_off23 c) (k0_off23_inb c) <|
  xwaitP (xsS 4) (k0_off22 c) (k0_off22_inb c) <|
  xwaitP (xsS 5) (k0_off24 c) (k0_off24_inb c) <|
  k

/-- The waits for the departures along the lane. -/
def drainsP (c : Dev nD) (k : Code F α) : Code F α :=
  drainP false (gLt c) <|
  drainP true (gGt c) <|
  k

/-- The body on device `c`. -/
def bodyP (c : Dev nD) : Code F PUnit :=
  barP c <| seg0P c <| send0P c <| seg1P c <| send1P c <| relayP c <| closeP c <| drainsP c <| pure ⟨⟩

/-! A program following a statement may be continued inside it. -/

variable {γ : Type}

theorem firstP_bind (b : Bool) (s : Fin 2) (g : BitVec 1) (o : Offs g) (p : InB o) (k : Code F α) (f : α → Code F γ) : (firstP b s g o p k >>= f) = firstP b s g o p (k >>= f) := by
  unfold firstP; split <;> simp only [bind_assoc]
theorem addP_bind (b : Bool) (s : Fin 2) (g : BitVec 1) (o : Offs g) (p : InB o) (k : Code F α) (f : α → Code F γ) : (addP b s g o p k >>= f) = addP b s g o p (k >>= f) := by
  unfold addP; split <;> simp only [bind_assoc]
theorem sendP_bind (b : Bool) (s : Fin 2) (g : BitVec 1) (n : g = 1#1 → Dev nD) (k : Code F α) (f : α → Code F γ) : (sendP b s g n k >>= f) = sendP b s g n (k >>= f) := by
  unfold sendP; split <;> simp only [bind_assoc]
theorem meetP_bind (s : Fin 2) (g : BitVec 1) (o : Offs g) (p : InB o) (k : Code F α) (f : α → Code F γ) : (meetP s g o p k >>= f) = meetP s g o p (k >>= f) := by
  unfold meetP; split <;> simp only [bind_assoc]
theorem lastP_bind (s : Fin 2) (g : BitVec 1) (o : Offs g) (p : InB o) (k : Code F α) (f : α → Code F γ) : (lastP s g o p k >>= f) = lastP s g o p (k >>= f) := by
  unfold lastP; split <;> simp only [bind_assoc]
theorem drainP_bind (b : Bool) (g : BitVec 1) (k : Code F α) (f : α → Code F γ) : (drainP b g k >>= f) = drainP b g (k >>= f) := by
  unfold drainP; split <;> simp only [bind_assoc]
theorem signalP_bind (g : BitVec 1) (n : g = 1#1 → Dev nD) (k : Code F α) (f : α → Code F γ) : (signalP g n k >>= f) = signalP g n (k >>= f) := by
  unfold signalP; split <;> simp only [bind_assoc]
theorem barWaitP_bind (g : BitVec 1) (k : Code F α) (f : α → Code F γ) : (barWaitP g k >>= f) = barWaitP g (k >>= f) := by
  unfold barWaitP; split <;> simp only [bind_assoc]
theorem barWait2P_bind (k : Code F α) (f : α → Code F γ) : (barWait2P k >>= f) = barWait2P (k >>= f) := by
  unfold barWait2P; simp only [bind_assoc]
theorem xsendP_bind (i : Fin 6) (o : Fin 2 → Nat) (p : ∀ a, o a + S512x256.size a ≤ S2048x512.size a) (n : Dev nD) (k : Code F α) (f : α → Code F γ) :
    (xsendP i o p n k >>= f) = xsendP i o p n (k >>= f) := by
  unfold xsendP; simp only [bind_assoc]
theorem xwaitP_bind (sm : DmaSem sig) (o : Fin 2 → Nat) (p : ∀ a, o a + S512x256.size a ≤ S2048x512.size a) (k : Code F α) (f : α → Code F γ) :
    (xwaitP sm o p k >>= f) = xwaitP sm o p (k >>= f) := by
  unfold xwaitP; simp only [bind_assoc]
theorem pairP_bind (b : Bool) (s : Fin 2) (g g1 g2 g3 g4 g5 g6 : BitVec 1) (o1 : g = 1#1 → Offs g1) (p1 : ∀ h, InB (o1 h)) (o2 : g = 1#1 → Offs g2) (p2 : ∀ h, InB (o2 h))
    (n3 : g = 1#1 → g3 = 1#1 → Dev nD) (o4 : g = 1#1 → Offs g4) (p4 : ∀ h, InB (o4 h)) (o5 : g = 1#1 → Offs g5) (p5 : ∀ h, InB (o5 h))
    (n6 : g = 1#1 → g6 = 1#1 → Dev nD) (k : Code F α) (f : α → Code F γ) :
    (pairP b s g g1 g2 g3 g4 g5 g6 o1 p1 o2 p2 n3 o4 p4 o5 p5 n6 k >>= f) = pairP b s g g1 g2 g3 g4 g5 g6 o1 p1 o2 p2 n3 o4 p4 o5 p5 n6 (k >>= f) := by
  unfold pairP; split <;> simp only [firstP_bind, addP_bind, sendP_bind]

end Cert.LaneSum

end
-- ==== Proof.Blocks.lean ====
/-
The statements of a chain, each taking what it needs and leaving what it makes, for either direction and either half.
-/
module

public import proofs.«01_k».proof.Proof.Program

@[expose] public section

set_option maxRecDepth 100000

noncomputable section

namespace Cert.LaneSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 21 → ℕ)

/-! ## Facts of the numbering -/

theorem kRecv_ne (b : Bool) (s : Fin 2) : kRecv b s ≠ 0 := by revert b s; decide
theorem kSend_ne (b : Bool) (s : Fin 2) : kSend b s ≠ 0 := by revert b s; decide
theorem iChain_lt (b : Bool) (s : Fin 2) : (iChain b s).val < 14 := by revert b s; decide
theorem kAct_recv (b : Bool) (s : Fin 2) (c : Dev nD) : kAct c (kRecv b s) = decide (hasP b c) := by revert b s c; decide +kernel
theorem kAct_send (b : Bool) (s : Fin 2) (c : Dev nD) : kAct c (kSend b s) = decide (hasN b c) := by revert b s c; decide +kernel
theorem dAct_iChain (b : Bool) (s : Fin 2) (c : Dev nD) : dAct (iChain b s) c = decide (hasN b c) := by revert b s c; decide +kernel
theorem dAct_jChain (b : Bool) (s : Fin 2) (c : Dev nD) : dAct (jChain b s) c = decide (hasN b c) := by revert b s c; decide +kernel
theorem inH_credit (b : Bool) (s : Fin 2) : (inH b s).view.dmaCredit = N := by revert b s; decide
theorem outH_credit (b : Bool) (s : Fin 2) : (outH b s).view.dmaCredit = N := by revert b s; decide

/-! ## What a device holds between the statements -/

/-- Its block, -/
def xO (c : Dev nD) : sProp 𝕄 := owns (c : Thread nD τ) xM fullShare (xstg m ρ c)
/-- the buffer of a running sum, written if the device is the first; -/
def outOk (b : Bool) (s : Fin 2) (c : Dev nD) : sProp 𝕄 :=
  ownsSat (c : Thread nD τ) (outH b s) fullShare fun X => ¬ hasP b c → X = chain m ρ b c s
/-- the landing half, with what arrived there if anything does; -/
def inV (b : Bool) (s : Fin 2) (c : Dev nD) : sProp 𝕄 :=
  ownsSat (c : Thread nD τ) (inH b s) fullShare fun X => hasP b c → X = chain m ρ b (pv b c) s
/-- the means to receive, -/
def recvPre (b : Bool) (s : Fin 2) (c : Dev nD) : sProp 𝕄 :=
  if hasP b c then iprop(crd c (kRecv b s) ∗ pos c (kRecv b s)) else iprop(anyAt c (inH b s) ∗ fin m ρ c (kRecv b s))
/-- the means to send, -/
def sendPre (b : Bool) (s : Fin 2) (c : Dev nD) : sProp 𝕄 :=
  if hasN b c then iprop(tok c (iChain b s) ∗ tok c (jChain b s) ∗ pos c (kSend b s) ∗ anyAt (nx b c) (inH b s)) else fin m ρ c (kSend b s)
/-- and what is left to wait for once sent. -/
def sendMid (b : Bool) (s : Fin 2) (c : Dev nD) : sProp 𝕄 :=
  if hasN b c then iprop(crd c (kSend b s) ∗ pos c (kSend b s))
  else iprop(owns (c : Thread nD τ) (outH b s) fullShare.left (chain m ρ b c s) ∗ fin m ρ c (kSend b s))

/-- A region at contents that are known is a region at any. -/
theorem any_of_owns (c : Dev nD) (M : Memref sig .tc .vmem S512x256 .f32) (X : Vec F S512x256 .f32) :
    (owns (c : Thread nD τ) M fullShare X : sProp 𝕄) ⊢ ownsSat (c : Thread nD τ) M fullShare (fun _ => True) :=
  ownsSat_intro (Φ := fun _ => True) (c : Thread nD τ) M fullShare trivial
theorem owns_of_any (c : Dev nD) (M : Memref sig .tc .vmem S512x256 .f32) (q : PosShare TreeShare) (Φ : Vec F S512x256 .f32 → Prop) :
    (ownsSat (c : Thread nD τ) M q Φ : sProp 𝕄) ⊢ iprop(∃ X, ⌜Φ X⌝ ∗ owns (c : Thread nD τ) M q X) := by
  unfold ownsSat owns
  iintro ⟨%f, %hf, H⟩
  iexists M.view.read (Elt F) f
  isplitr; · ipureintro; exact hf
  iexists f
  isplitr; · ipureintro; rfl
  iexact H

variable {α : Type} {Q : α → sProp (MT nD τ sig Unit (Elt F) ℕ UU ℕ)} {k : Code F α}

/-- A store over a running sum's buffer. -/
theorem store_half (b : Bool) (s : Fin 2) (c : Dev nD) (X w : Vec F S512x256 .f32) {hx : ((outM b).access (hRect s)).Stores Finset.univ}
    {hm : (Finset.univ : Finset (hRect s).shape.Idx) = Finset.univ ∨ ∀ a, (hRect s).stride a = 1} {kk : PUnit → Code F α} :
    (owns (c : Thread nD τ) (outH b s) fullShare X : sProp 𝕄)
      ⊢ iprop((owns (c : Thread nD τ) (outH b s) fullShare w -∗ WP c (kk ⟨⟩) Q)
          -∗ WP c (.op (.store (outM b) (hRect s) w Finset.univ hx hm) kk) Q) :=
  (any_of_owns c (outH b s) X).trans (store_at c (outM b) (hRect s) (fun _ => rfl) w)

theorem firstP_at (b : Bool) (s : Fin 2) (c : Dev nD) {g : BitVec 1} {o : Offs g} {p : InB o} (hg : g = 1#1 ↔ ¬ hasP b c)
    (ho : ∀ h, o h = ![512 * (ln c).val, 256 * s.val]) :
    iprop(xO m ρ c ∗ anyAt c (outH b s))
      ⊢ iprop((iprop(xO m ρ c ∗ outOk m ρ b s c) -∗ WP c k Q) -∗ WP c (firstP b s g o p k) Q) := by
  obtain rfl : o = fun _ => ![512 * (ln c).val, 256 * s.val] := funext ho
  by_cases h : g = 1#1
  · rw [firstP, dif_pos h]
    simp only [Prog.lift, Prog.bind_op, Prog.bind_ret]
    unfold xO outOk
    iintro ⟨Hx, Ho⟩ Hk
    ihave Ho' := (owns_of_any c (outH b s) fullShare _) $$ Ho
    icases Ho' with ⟨%X, -, Ho⟩
    iapply (load_of c xM (gRect (ln c) s) fullShare (xstg m ρ c)) $$ Hx
    iintro Hx
    iapply (load_at c (outM b) (hRect s) (fun _ => rfl) fullShare X) $$ Ho
    iintro Ho
    iapply (store_half b s c X (k0_pay1 (xq m ρ c s))) $$ Ho
    iintro Ho
    iapply Hk
    isplitl [Hx]; · iexact Hx
    iapply (ownsSat_intro (c : Thread nD τ) (outH b s) fullShare (fun hh => (chain_first m ρ b c s hh).symm))
    iexact Ho
  · rw [firstP, dif_neg h]
    unfold outOk
    iintro ⟨Hx, Ho⟩ Hk
    ihave Ho' := (owns_of_any c (outH b s) fullShare _) $$ Ho
    icases Ho' with ⟨%X, -, Ho⟩
    iapply Hk
    isplitl [Hx]; · iexact Hx
    iapply (ownsSat_intro (c : Thread nD τ) (outH b s) fullShare (fun hh => absurd (hg.mpr hh) h))
    iexact Ho

theorem addP_at (b : Bool) (s : Fin 2) (c : Dev nD) (A : Finset Due) {g : BitVec 1} {o : Offs g} {p : InB o} (hg : g = 1#1 ↔ hasP b c)
    (ho : ∀ h, o h = ![512 * (ln c).val, 256 * s.val])
    (hlev : hasP b c → ∀ i : Due, i.val < 14 → dAct i c = true → i ∉ A → kLev c (kRecv b s) < kLev (dDev i c) (dKind i)) :
    iprop(records m ρ K ∗ xO m ρ c ∗ ow c A ∗ recvPre m ρ b s c ∗ outOk m ρ b s c)
      ⊢ iprop((iprop(xO m ρ c ∗ ow c A ∗ fin m ρ c (kRecv b s) ∗ inV m ρ b s c ∗ owns (c : Thread nD τ) (outH b s) fullShare (chain m ρ b c s)) -∗ WP c k Q)
          -∗ WP c (addP b s g o p k) Q) := by
  obtain rfl : o = fun _ => ![512 * (ln c).val, 256 * s.val] := funext ho
  by_cases h : g = 1#1
  · rw [addP, dif_pos h]
    have hp := hg.mp h
    simp only [Prog.lift, Prog.bind_op, Prog.bind_ret]
    unfold xO outOk inV recvPre
    rw [if_pos hp]
    iintro ⟨#HR, Hx, HO, ⟨Hc, Hp⟩, Ho⟩ Hk
    ihave Ho' := (owns_of_any c (outH b s) fullShare _) $$ Ho
    icases Ho' with ⟨%X, -, Ho⟩
    iapply (wait_at m ρ K c (kRecv b s) A (rcvS_eq b s) (kRecv_ne b s) ((kAct_recv b s c).trans (decide_eq_true hp)) (inH_credit b s) (hlev hp)) $$ [HO Hc Hp]
    · isplitr; · iexact HR
      isplitl [HO]; · iexact HO
      isplitl [Hc]; · iexact Hc
      iexact Hp
    rw [kPay_recv]; unfold recvPay
    iintro ⟨HO, Hf, Hi⟩
    iapply (load_at c (inM b) (hRect s) (fun _ => rfl) fullShare (chain m ρ b (pv b c) s)) $$ Hi
    iintro Hi
    iapply (load_of c xM (gRect (ln c) s) fullShare (xstg m ρ c)) $$ Hx
    iintro Hx
    iapply (load_at c (outM b) (hRect s) (fun _ => rfl) fullShare X) $$ Ho
    iintro Ho
    iapply (store_half b s c X (k0_pay2 (chain m ρ b (pv b c) s) (xq m ρ c s))) $$ Ho
    rw [← chain_next m ρ b c s hp]
    iintro Ho
    iapply Hk
    isplitl [Hx]; · iexact Hx
    isplitl [HO]; · iexact HO
    isplitl [Hf]; · iexact Hf
    isplitl [Hi]
    · iapply (ownsSat_intro (c : Thread nD τ) (inH b s) fullShare (fun _ => rfl)); iexact Hi
    iexact Ho
  · rw [addP, dif_neg h]
    have hp : ¬ hasP b c := fun hh => h (hg.mpr hh)
    unfold outOk inV recvPre
    rw [if_neg hp]
    iintro ⟨#HR, Hx, HO, ⟨Hi, Hf⟩, Ho⟩ Hk
    ihave Ho' := (owns_of_any c (outH b s) fullShare _) $$ Ho
    icases Ho' with ⟨%X, %hX, Ho⟩
    ihave Hi' := (owns_of_any c (inH b s) fullShare _) $$ Hi
    icases Hi' with ⟨%Y, -, Hi⟩
    rw [hX hp]
    iapply Hk
    isplitl [Hx]; · iexact Hx
    isplitl [HO]; · iexact HO
    isplitl [Hf]; · iexact Hf
    isplitl [Hi]
    · iapply (ownsSat_intro (c : Thread nD τ) (inH b s) fullShare (fun hh => absurd hh hp)); iexact Hi
    iexact Ho

theorem sendP_at (b : Bool) (s : Fin 2) (c : Dev nD) (A : Finset Due) {g : BitVec 1} {n : g = 1#1 → Dev nD} (hg : g = 1#1 ↔ hasN b c)
    (hn : ∀ h, n h = nx b c) (hA : iChain b s ∉ A) :
    iprop(records m ρ K ∗ ow c A ∗ sendPre m ρ b s c ∗ owns (c : Thread nD τ) (outH b s) fullShare (chain m ρ b c s))
      ⊢ iprop((iprop(ow c (insert (iChain b s) A) ∗ sendMid m ρ b s c ∗ owns (c : Thread nD τ) (outH b s) fullShare.right (chain m ρ b c s)) -∗ WP c k Q)
          -∗ WP c (sendP b s g n k) Q) := by
  by_cases h : g = 1#1
  · rw [sendP, dif_pos h]
    have hp := hg.mp h
    simp only [Prog.lift, Prog.bind_op, Prog.bind_ret]
    unfold sendPre sendMid
    rw [if_pos hp, if_pos hp]
    iintro ⟨#HR, HO, ⟨Hti, Htj, Hp, Hd⟩, Ho⟩ Hk
    ihave Ho' := (owns_halves (c : Thread nD τ) (outH b s) fullShare (chain m ρ b c s)).1 $$ Ho
    icases Ho' with ⟨Hl, Hr⟩
    iapply (send_at m ρ K c (n h) (nx b c) (iChain b s) (jChain b s) A fullShare.left (chain m ρ b c s) (hn h) (dDev_iChain b s c) (dDev_jChain b s c) rfl rfl
      ((sndS_eq b s).trans (congrArg csem (dKind_jChain b s).symm)) ((rcvS_eq b s).trans (congrArg csem (dKind_iChain b s).symm))
      (dKind_iChain b s ▸ kRecv_ne b s) (dKind_jChain b s ▸ kSend_ne b s)
      (by rw [dKind_iChain, kPay_recv]; unfold recvPay; rw [show pv b (nx b c) = c from pv_nx b c])
      (by rw [dKind_jChain, kPay_send]; rfl)
      (inH_credit b s) (iChain_lt b s) ((dAct_iChain b s c).trans (decide_eq_true hp)) ((dAct_jChain b s c).trans (decide_eq_true hp)) hA) $$ [HO Hti Htj Hl Hd]
    · isplitr; · iexact HR
      isplitl [HO]; · iexact HO
      isplitl [Hti]; · iexact Hti
      isplitl [Htj]; · iexact Htj
      isplitl [Hl]; · iexact Hl
      iexact Hd
    rw [dKind_jChain]
    iintro ⟨Hc, HO⟩
    iapply Hk
    isplitl [HO]; · iexact HO
    isplitl [Hc Hp]
    · isplitl [Hc]; · iexact Hc
      iexact Hp
    iexact Hr
  · rw [sendP, dif_neg h]
    have hp : ¬ hasN b c := fun hh => h (hg.mpr hh)
    unfold sendPre sendMid
    rw [if_neg hp, if_neg hp]
    iintro ⟨#HR, HO, Hf, Ho⟩ Hk
    ihave Ho' := (owns_halves (c : Thread nD τ) (outH b s) fullShare (chain m ρ b c s)).1 $$ Ho
    icases Ho' with ⟨Hl, Hr⟩
    iapply Hk
    isplitl [HO]
    · iapply (ow_skip c A (iChain b s) (by rw [dAct_iChain]; exact fun hh => hp (of_decide_eq_true hh))); iexact HO
    isplitl [Hl Hf]
    · isplitl [Hl]; · iexact Hl
      iexact Hf
    iexact Hr

end Cert.LaneSum

end
-- ==== Proof.Lane.lean ====
/-
One column half along the lane: both directions in either order, then the lane's sum into the result.
-/
module

public import proofs.«01_k».proof.Proof.Blocks

@[expose] public section

set_option maxRecDepth 100000

noncomputable section

namespace Cert.LaneSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 21 → ℕ)

variable {α : Type} {Q : α → sProp (MT nD τ sig Unit (Elt F) ℕ UU ℕ)} {k : Code F α}

/-! ## One direction, then both, then the sum -/

theorem iChain_not (b : Bool) (s : Fin 2) : iChain (!b) s ≠ iChain b s := by revert b s; decide

/-- What one direction of one half takes, -/
def dirPre (b : Bool) (s : Fin 2) (c : Dev nD) : sProp 𝕄 :=
  iprop(anyAt c (outH b s) ∗ recvPre m ρ b s c ∗ sendPre m ρ b s c)
/-- and what it leaves. -/
def dirPost (b : Bool) (s : Fin 2) (c : Dev nD) : sProp 𝕄 :=
  iprop(fin m ρ c (kRecv b s) ∗ inV m ρ b s c ∗ sendMid m ρ b s c ∗ owns (c : Thread nD τ) (outH b s) fullShare.right (chain m ρ b c s))

/-- The waits along direction `b` lie below what is still owed. -/
abbrev Below (b : Bool) (s : Fin 2) (c : Dev nD) (A : Finset Due) : Prop :=
  hasP b c → ∀ i : Due, i.val < 14 → dAct i c = true → i ∉ A → kLev c (kRecv b s) < kLev (dDev i c) (dKind i)

theorem dirP_at (b : Bool) (s : Fin 2) (c : Dev nD) (A : Finset Due) {g1 g2 g3 : BitVec 1} {o1 : Offs g1} {p1 : InB o1} {o2 : Offs g2} {p2 : InB o2}
    {n3 : g3 = 1#1 → Dev nD} (h1 : g1 = 1#1 ↔ ¬ hasP b c) (h2 : g2 = 1#1 ↔ hasP b c) (h3 : g3 = 1#1 ↔ hasN b c)
    (ho1 : ∀ h, o1 h = ![512 * (ln c).val, 256 * s.val]) (ho2 : ∀ h, o2 h = ![512 * (ln c).val, 256 * s.val]) (hn3 : ∀ h, n3 h = nx b c)
    (hlev : Below b s c A) (hA : iChain b s ∉ A) :
    iprop(records m ρ K ∗ xO m ρ c ∗ ow c A ∗ dirPre m ρ b s c)
      ⊢ iprop((iprop(xO m ρ c ∗ ow c (insert (iChain b s) A) ∗ dirPost m ρ b s c) -∗ WP c k Q)
          -∗ WP c (firstP b s g1 o1 p1 <| addP b s g2 o2 p2 <| sendP b s g3 n3 k) Q) := by
  unfold dirPre dirPost
  iintro ⟨#HR, Hx, HO, Ho, Hr, Hs⟩ Hk
  iapply (firstP_at m ρ b s c h1 ho1) $$ [Hx Ho]
  · isplitl [Hx]; · iexact Hx
    iexact Ho
  iintro ⟨Hx, Ho⟩
  iapply (addP_at m ρ K b s c A h2 ho2 hlev) $$ [Hx Ho HO Hr]
  · isplitr; · iexact HR
    isplitl [Hx]; · iexact Hx
    isplitl [HO]; · iexact HO
    isplitl [Hr]; · iexact Hr
    iexact Ho
  iintro ⟨Hx, HO, Hf, Hi, Ho⟩
  iapply (sendP_at m ρ K b s c A h3 hn3 hA) $$ [HO Hs Ho]
  · isplitr; · iexact HR
    isplitl [HO]; · iexact HO
    isplitl [Hs]; · iexact Hs
    iexact Ho
  iintro ⟨HO, Hs, Ho⟩
  iapply Hk
  isplitl [Hx]; · iexact Hx
  isplitl [HO]; · iexact HO
  isplitl [Hf]; · iexact Hf
  isplitl [Hi]; · iexact Hi
  isplitl [Hs]; · iexact Hs
  iexact Ho

theorem pairP_at (b : Bool) (s : Fin 2) (c : Dev nD) (A : Finset Due) {g g1 g2 g3 g4 g5 g6 : BitVec 1}
    {o1 : g = 1#1 → Offs g1} {p1 : ∀ h, InB (o1 h)} {o2 : g = 1#1 → Offs g2} {p2 : ∀ h, InB (o2 h)}
    {n3 : g = 1#1 → g3 = 1#1 → Dev nD} {o4 : g = 1#1 → Offs g4} {p4 : ∀ h, InB (o4 h)} {o5 : g = 1#1 → Offs g5} {p5 : ∀ h, InB (o5 h)}
    {n6 : g = 1#1 → g6 = 1#1 → Dev nD} (hg : g = 1#1)
    (h1 : g1 = 1#1 ↔ ¬ hasP b c) (h2 : g2 = 1#1 ↔ hasP b c) (h3 : g3 = 1#1 ↔ hasN b c)
    (h4 : g4 = 1#1 ↔ ¬ hasP (!b) c) (h5 : g5 = 1#1 ↔ hasP (!b) c) (h6 : g6 = 1#1 ↔ hasN (!b) c)
    (ho1 : ∀ h h', o1 h h' = ![512 * (ln c).val, 256 * s.val]) (ho2 : ∀ h h', o2 h h' = ![512 * (ln c).val, 256 * s.val])
    (hn3 : ∀ h h', n3 h h' = nx b c)
    (ho4 : ∀ h h', o4 h h' = ![512 * (ln c).val, 256 * s.val]) (ho5 : ∀ h h', o5 h h' = ![512 * (ln c).val, 256 * s.val])
    (hn6 : ∀ h h', n6 h h' = nx (!b) c)
    (hlev : Below b s c A) (hlev' : Below (!b) s c (insert (iChain b s) A)) (hA : iChain b s ∉ A) (hA' : iChain (!b) s ∉ A) :
    iprop(records m ρ K ∗ xO m ρ c ∗ ow c A ∗ dirPre m ρ b s c ∗ dirPre m ρ (!b) s c)
      ⊢ iprop((iprop(xO m ρ c ∗ ow c (insert (iChain (!b) s) (insert (iChain b s) A)) ∗ dirPost m ρ b s c ∗ dirPost m ρ (!b) s c) -∗ WP c k Q)
          -∗ WP c (pairP b s g g1 g2 g3 g4 g5 g6 o1 p1 o2 p2 n3 o4 p4 o5 p5 n6 k) Q) := by
  have hne : iChain (!b) s ∉ insert (iChain b s) A := by
    rw [Finset.mem_insert, not_or]; exact ⟨iChain_not b s, hA'⟩
  rw [pairP, dif_pos hg]
  iintro ⟨#HR, Hx, HO, H1, H2⟩ Hk
  iapply (dirP_at m ρ K b s c A h1 h2 h3 (ho1 hg) (ho2 hg) (hn3 hg) hlev hA) $$ [Hx HO H1]
  · isplitr; · iexact HR
    isplitl [Hx]; · iexact Hx
    isplitl [HO]; · iexact HO
    iexact H1
  iintro ⟨Hx, HO, H1⟩
  iapply (dirP_at m ρ K (!b) s c (insert (iChain b s) A) h4 h5 h6 (ho4 hg) (ho5 hg) (hn6 hg) hlev' hne) $$ [Hx HO H2]
  · isplitr; · iexact HR
    isplitl [Hx]; · iexact Hx
    isplitl [HO]; · iexact HO
    iexact H2
  iintro ⟨Hx, HO, H2⟩
  iapply Hk
  isplitl [Hx]; · iexact Hx
  isplitl [HO]; · iexact HO
  isplitl [H1]; · iexact H1
  iexact H2

theorem pairP_skip (b : Bool) (s : Fin 2) {g g1 g2 g3 g4 g5 g6 : BitVec 1}
    {o1 : g = 1#1 → Offs g1} {p1 : ∀ h, InB (o1 h)} {o2 : g = 1#1 → Offs g2} {p2 : ∀ h, InB (o2 h)}
    {n3 : g = 1#1 → g3 = 1#1 → Dev nD} {o4 : g = 1#1 → Offs g4} {p4 : ∀ h, InB (o4 h)} {o5 : g = 1#1 → Offs g5} {p5 : ∀ h, InB (o5 h)}
    {n6 : g = 1#1 → g6 = 1#1 → Dev nD} (hg : ¬ g = 1#1) :
    pairP b s g g1 g2 g3 g4 g5 g6 o1 p1 o2 p2 n3 o4 p4 o5 p5 n6 k = k := by rw [pairP, dif_neg hg]

/-- A store over a row block and half of the result. -/
theorem store_reg (q : Fin 4) (s : Fin 2) (c : Dev nD) (X w : Vec F S512x256 .f32) {hx : (oM.access (gRect q s)).Stores Finset.univ}
    {hm : (Finset.univ : Finset (gRect q s).shape.Idx) = Finset.univ ∨ ∀ a, (gRect q s).stride a = 1} {kk : PUnit → Code F α} :
    (owns (c : Thread nD τ) (oR q s) fullShare X : sProp 𝕄)
      ⊢ iprop((owns (c : Thread nD τ) (oR q s) fullShare w -∗ WP c (kk ⟨⟩) Q)
          -∗ WP c (.op (.store oM (gRect q s) w Finset.univ hx hm) kk) Q) :=
  (any_of_owns c (oR q s) X).trans (store_at c oM (gRect q s) (fun _ => rfl) w)

/-- The lane's sum into the device's own rows of the result. -/
theorem sumP_at (s : Fin 2) (c : Dev nD) {g g' : BitVec 1} {o : Offs g} {p : InB o} {o' : Offs g'} {p' : InB o'}
    (hg : g = 1#1 ↔ hasN false c) (hg' : g' = 1#1 ↔ ¬ hasN false c)
    (ho : ∀ h, o h = ![512 * (ln c).val, 256 * s.val]) (ho' : ∀ h, o' h = ![512 * (ln c).val, 256 * s.val]) :
    iprop(owns (c : Thread nD τ) (outH false s) fullShare.right (chain m ρ false c s) ∗ inV m ρ true s c ∗ anyAt c (oR (ln c) s))
      ⊢ iprop((iprop(owns (c : Thread nD τ) (outH false s) fullShare.right (chain m ρ false c s) ∗ anyAt c (inH true s)
            ∗ owns (c : Thread nD τ) (oR (ln c) s) fullShare (tot m ρ c s)) -∗ WP c k Q)
          -∗ WP c (meetP s g o p <| lastP s g' o' p' k) Q) := by
  obtain rfl : o = fun _ => ![512 * (ln c).val, 256 * s.val] := funext ho
  obtain rfl : o' = fun _ => ![512 * (ln c).val, 256 * s.val] := funext ho'
  unfold inV
  by_cases h : hasN false c
  · rw [meetP, dif_pos (hg.mpr h), lastP, dif_neg (fun hh => hg'.mp hh h)]
    simp only [Prog.lift, Prog.bind_op, Prog.bind_ret]
    iintro ⟨Ho, Hi, Hr⟩ Hk
    ihave Hi' := (owns_of_any c (inH true s) fullShare _) $$ Hi
    icases Hi' with ⟨%Y, %hY, Hi⟩
    ihave Hr' := (owns_of_any c (oR (ln c) s) fullShare _) $$ Hr
    icases Hr' with ⟨%Z, -, Hr⟩
    iapply (load_at c (outM false) (hRect s) (fun _ => rfl) fullShare.right (chain m ρ false c s)) $$ Ho
    iintro Ho
    iapply (load_at c (inM true) (hRect s) (fun _ => rfl) fullShare Y) $$ Hi
    iintro Hi
    iapply (load_at c oM (gRect (ln c) s) (fun _ => rfl) fullShare Z) $$ Hr
    iintro Hr
    rw [show Y = chain m ρ true (nx false c) s from hY ((hasP_not false c).mpr h)]
    iapply (store_reg (ln c) s c Z (k0_pay9 (chain m ρ false c s) (chain m ρ true (nx false c) s))) $$ Hr
    rw [show k0_pay9 (chain m ρ false c s) (chain m ρ true (nx false c) s) = tot m ρ c s from (if_pos h).symm]
    iintro Hr
    iapply Hk
    isplitl [Ho]; · iexact Ho
    isplitl [Hi]; · iapply (any_of_owns c (inH true s) _); iexact Hi
    iexact Hr
  · rw [meetP, dif_neg (fun hh => h (hg.mp hh)), lastP, dif_pos (hg'.mpr h)]
    simp only [Prog.lift, Prog.bind_op, Prog.bind_ret]
    iintro ⟨Ho, Hi, Hr⟩ Hk
    ihave Hi' := (owns_of_any c (inH true s) fullShare _) $$ Hi
    icases Hi' with ⟨%Y, -, Hi⟩
    ihave Hr' := (owns_of_any c (oR (ln c) s) fullShare _) $$ Hr
    icases Hr' with ⟨%Z, -, Hr⟩
    iapply (load_at c (outM false) (hRect s) (fun _ => rfl) fullShare.right (chain m ρ false c s)) $$ Ho
    iintro Ho
    iapply (load_at c oM (gRect (ln c) s) (fun _ => rfl) fullShare Z) $$ Hr
    iintro Hr
    iapply (store_reg (ln c) s c Z (chain m ρ false c s)) $$ Hr
    rw [show chain m ρ false c s = tot m ρ c s from (if_neg h).symm]
    iintro Hr
    iapply Hk
    isplitl [Ho]; · iexact Ho
    isplitl [Hi]; · iapply (any_of_owns c (inH true s) _); iexact Hi
    iexact Hr

end Cert.LaneSum

end
-- ==== Proof.Places.lean ====
/-
The printed conditions, offsets and device numbers, in words of the mesh.
-/
module

public import proofs.«01_k».proof.Proof.Program

@[expose] public section

set_option maxRecDepth 100000

noncomputable section

namespace Cert.LaneSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! What the printed conditions, offsets and device numbers say about the device's place. -/

theorem cond1_iff (c : Dev nD) : k0_cond1 c = 1#1 ↔ hasN false c := by revert c; decide +kernel
theorem cond2_iff (c : Dev nD) : k0_cond2 c = 1#1 ↔ hasP false c := by revert c; decide +kernel
theorem gLt_iff (c : Dev nD) : gLt c = 1#1 ↔ hasN false c := by revert c; decide +kernel
theorem gGt_iff (c : Dev nD) : gGt c = 1#1 ↔ hasP false c := by revert c; decide +kernel
theorem cond5_iff (c : Dev nD) : k0_cond5 c = 1#1 ↔ c.val % 4 ≤ 1 := by revert c; decide +kernel
theorem cond12_iff (c : Dev nD) : k0_cond12 c = 1#1 ↔ ¬ c.val % 4 ≤ 1 := by revert c; decide +kernel
theorem cond6_iff (c : Dev nD) : k0_cond6 c = 1#1 ↔ ¬ hasP false c := by revert c; decide +kernel
theorem cond7_iff (c : Dev nD) : k0_cond7 c = 1#1 ↔ hasP false c := by revert c; decide +kernel
theorem cond8_iff (c : Dev nD) : k0_cond8 c = 1#1 ↔ hasN false c := by revert c; decide +kernel
theorem cond9_iff (c : Dev nD) : k0_cond9 c = 1#1 ↔ ¬ hasP true c := by revert c; decide +kernel
theorem cond10_iff (c : Dev nD) : k0_cond10 c = 1#1 ↔ hasP true c := by revert c; decide +kernel
theorem cond11_iff (c : Dev nD) : k0_cond11 c = 1#1 ↔ hasN true c := by revert c; decide +kernel
theorem cond13_iff (c : Dev nD) : k0_cond13 c = 1#1 ↔ ¬ hasP true c := by revert c; decide +kernel
theorem cond14_iff (c : Dev nD) : k0_cond14 c = 1#1 ↔ hasP true c := by revert c; decide +kernel
theorem cond15_iff (c : Dev nD) : k0_cond15 c = 1#1 ↔ hasN true c := by revert c; decide +kernel
theorem cond16_iff (c : Dev nD) : k0_cond16 c = 1#1 ↔ ¬ hasP false c := by revert c; decide +kernel
theorem cond17_iff (c : Dev nD) : k0_cond17 c = 1#1 ↔ hasP false c := by revert c; decide +kernel
theorem cond18_iff (c : Dev nD) : k0_cond18 c = 1#1 ↔ hasN false c := by revert c; decide +kernel
theorem cond19_iff (c : Dev nD) : k0_cond19 c = 1#1 ↔ hasN false c := by revert c; decide +kernel
theorem cond20_iff (c : Dev nD) : k0_cond20 c = 1#1 ↔ ¬ hasN false c := by revert c; decide +kernel
theorem cond21_iff (c : Dev nD) : k0_cond21 c = 1#1 ↔ c.val % 4 ≤ 1 := by revert c; decide +kernel
theorem cond28_iff (c : Dev nD) : k0_cond28 c = 1#1 ↔ ¬ c.val % 4 ≤ 1 := by revert c; decide +kernel
theorem cond22_iff (c : Dev nD) : k0_cond22 c = 1#1 ↔ ¬ hasP false c := by revert c; decide +kernel
theorem cond23_iff (c : Dev nD) : k0_cond23 c = 1#1 ↔ hasP false c := by revert c; decide +kernel
theorem cond24_iff (c : Dev nD) : k0_cond24 c = 1#1 ↔ hasN false c := by revert c; decide +kernel
theorem cond25_iff (c : Dev nD) : k0_cond25 c = 1#1 ↔ ¬ hasP true c := by revert c; decide +kernel
theorem cond26_iff (c : Dev nD) : k0_cond26 c = 1#1 ↔ hasP true c := by revert c; decide +kernel
theorem cond27_iff (c : Dev nD) : k0_cond27 c = 1#1 ↔ hasN true c := by revert c; decide +kernel
theorem cond29_iff (c : Dev nD) : k0_cond29 c = 1#1 ↔ ¬ hasP true c := by revert c; decide +kernel
theorem cond30_iff (c : Dev nD) : k0_cond30 c = 1#1 ↔ hasP true c := by revert c; decide +kernel
theorem cond31_iff (c : Dev nD) : k0_cond31 c = 1#1 ↔ hasN true c := by revert c; decide +kernel
theorem cond32_iff (c : Dev nD) : k0_cond32 c = 1#1 ↔ ¬ hasP false c := by revert c; decide +kernel
theorem cond33_iff (c : Dev nD) : k0_cond33 c = 1#1 ↔ hasP false c := by revert c; decide +kernel
theorem cond34_iff (c : Dev nD) : k0_cond34 c = 1#1 ↔ hasN false c := by revert c; decide +kernel
theorem cond35_iff (c : Dev nD) : k0_cond35 c = 1#1 ↔ hasN false c := by revert c; decide +kernel
theorem cond36_iff (c : Dev nD) : k0_cond36 c = 1#1 ↔ ¬ hasN false c := by revert c; decide +kernel
theorem off1_is (c : Dev nD) : k0_off1 c = ![512 * (ln c).val, 256 * ((0 : Fin 2) : Fin 2).val] := by revert c; decide +kernel
theorem off2_is (c : Dev nD) : k0_off2 c = ![512 * (ln c).val, 256 * ((0 : Fin 2) : Fin 2).val] := by revert c; decide +kernel
theorem off3_is (c : Dev nD) : k0_off3 c = ![512 * (ln c).val, 256 * ((0 : Fin 2) : Fin 2).val] := by revert c; decide +kernel
theorem off4_is (c : Dev nD) : k0_off4 c = ![512 * (ln c).val, 256 * ((0 : Fin 2) : Fin 2).val] := by revert c; decide +kernel
theorem off5_is (c : Dev nD) : k0_off5 c = ![512 * (ln c).val, 256 * ((0 : Fin 2) : Fin 2).val] := by revert c; decide +kernel
theorem off6_is (c : Dev nD) : k0_off6 c = ![512 * (ln c).val, 256 * ((0 : Fin 2) : Fin 2).val] := by revert c; decide +kernel
theorem off7_is (c : Dev nD) : k0_off7 c = ![512 * (ln c).val, 256 * ((0 : Fin 2) : Fin 2).val] := by revert c; decide +kernel
theorem off8_is (c : Dev nD) : k0_off8 c = ![512 * (ln c).val, 256 * ((0 : Fin 2) : Fin 2).val] := by revert c; decide +kernel
theorem off9_is (c : Dev nD) : k0_off9 c = ![512 * (ln c).val, 256 * ((0 : Fin 2) : Fin 2).val] := by revert c; decide +kernel
theorem off10_is (c : Dev nD) : k0_off10 c = ![512 * (ln c).val, 256 * ((0 : Fin 2) : Fin 2).val] := by revert c; decide +kernel
theorem off11_is (c : Dev nD) : k0_off11 c = ![512 * (ln c).val, 256 * ((0 : Fin 2) : Fin 2).val] := by revert c; decide +kernel
theorem off12_is (c : Dev nD) : k0_off12 c = ![512 * (ln c).val, 256 * ((1 : Fin 2) : Fin 2).val] := by revert c; decide +kernel
theorem off13_is (c : Dev nD) : k0_off13 c = ![512 * (ln c).val, 256 * ((1 : Fin 2) : Fin 2).val] := by revert c; decide +kernel
theorem off14_is (c : Dev nD) : k0_off14 c = ![512 * (ln c).val, 256 * ((1 : Fin 2) : Fin 2).val] := by revert c; decide +kernel
theorem off15_is (c : Dev nD) : k0_off15 c = ![512 * (ln c).val, 256 * ((1 : Fin 2) : Fin 2).val] := by revert c; decide +kernel
theorem off16_is (c : Dev nD) : k0_off16 c = ![512 * (ln c).val, 256 * ((1 : Fin 2) : Fin 2).val] := by revert c; decide +kernel
theorem off17_is (c : Dev nD) : k0_off17 c = ![512 * (ln c).val, 256 * ((1 : Fin 2) : Fin 2).val] := by revert c; decide +kernel
theorem off18_is (c : Dev nD) : k0_off18 c = ![512 * (ln c).val, 256 * ((1 : Fin 2) : Fin 2).val] := by revert c; decide +kernel
theorem off19_is (c : Dev nD) : k0_off19 c = ![512 * (ln c).val, 256 * ((1 : Fin 2) : Fin 2).val] := by revert c; decide +kernel
theorem off20_is (c : Dev nD) : k0_off20 c = ![512 * (ln c).val, 256 * ((1 : Fin 2) : Fin 2).val] := by revert c; decide +kernel
theorem off21_is (c : Dev nD) : k0_off21 c = ![512 * (ln c).val, 256 * ((1 : Fin 2) : Fin 2).val] := by revert c; decide +kernel
theorem off22_is (c : Dev nD) : k0_off22 c = ![512 * (ln c).val, 256 * ((1 : Fin 2) : Fin 2).val] := by revert c; decide +kernel
theorem off23_is (c : Dev nD) : k0_off23 c = ![512 * (ln (xd c)).val, 256 * ((0 : Fin 2) : Fin 2).val] := by revert c; decide +kernel
theorem off24_is (c : Dev nD) : k0_off24 c = ![512 * (ln (yd c)).val, 256 * ((1 : Fin 2) : Fin 2).val] := by revert c; decide +kernel
theorem dev1_is (c : Dev nD) : k0_dev1 c = (xd c).val := by revert c; decide +kernel
theorem dev2_is (c : Dev nD) : k0_dev2 c = (yd c).val := by revert c; decide +kernel
theorem dev9_is (c : Dev nD) : k0_dev9 c = (px 0 c).val := by revert c; decide +kernel
theorem dev10_is (c : Dev nD) : k0_dev10 c = (px 2 c).val := by revert c; decide +kernel
theorem dev15_is (c : Dev nD) : k0_dev15 c = (px 1 c).val := by revert c; decide +kernel
theorem dev16_is (c : Dev nD) : k0_dev16 c = (px 4 c).val := by revert c; decide +kernel
theorem dev17_is (c : Dev nD) : k0_dev17 c = (px 3 c).val := by revert c; decide +kernel
theorem dev18_is (c : Dev nD) : k0_dev18 c = (px 5 c).val := by revert c; decide +kernel
theorem dev3_is (c : Dev nD) (h : hasN false c) : k0_dev3 c = (nx false c).val := by revert c; decide +kernel
theorem dev4_is (c : Dev nD) (h : hasP false c) : k0_dev4 c = (nx true c).val := by revert c; decide +kernel
theorem dev5_is (c : Dev nD) (h : hasN false c) : k0_dev5 c = (nx false c).val := by revert c; decide +kernel
theorem dev6_is (c : Dev nD) (h : hasN true c) : k0_dev6 c = (nx true c).val := by revert c; decide +kernel
theorem dev7_is (c : Dev nD) (h : hasN true c) : k0_dev7 c = (nx true c).val := by revert c; decide +kernel
theorem dev8_is (c : Dev nD) (h : hasN false c) : k0_dev8 c = (nx false c).val := by revert c; decide +kernel
theorem dev11_is (c : Dev nD) (h : hasN false c) : k0_dev11 c = (nx false c).val := by revert c; decide +kernel
theorem dev12_is (c : Dev nD) (h : hasN true c) : k0_dev12 c = (nx true c).val := by revert c; decide +kernel
theorem dev13_is (c : Dev nD) (h : hasN true c) : k0_dev13 c = (nx true c).val := by revert c; decide +kernel
theorem dev14_is (c : Dev nD) (h : hasN false c) : k0_dev14 c = (nx false c).val := by revert c; decide +kernel

end Cert.LaneSum

end
-- ==== Proof.Segments.lean ====
/-
The two column halves along the lane, as printed, and the waits for their departures.
-/
module

public import proofs.«01_k».proof.Proof.Lane
public import proofs.«01_k».proof.Proof.Places

@[expose] public section

set_option maxRecDepth 100000

noncomputable section

namespace Cert.LaneSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 21 → ℕ)

variable {α : Type} {Q : α → sProp (MT nD τ sig Unit (Elt F) ℕ UU ℕ)} {k : Code F α}

/-! ## One column half -/

/-- The guards, offsets and targets of both directions of one half are what they should be. -/
structure PairOk (b : Bool) (s : Fin 2) (c : Dev nD) (g g1 g2 g3 g4 g5 g6 : BitVec 1) (o1 : g = 1#1 → Offs g1) (o2 : g = 1#1 → Offs g2)
    (n3 : g = 1#1 → g3 = 1#1 → Dev nD) (o4 : g = 1#1 → Offs g4) (o5 : g = 1#1 → Offs g5) (n6 : g = 1#1 → g6 = 1#1 → Dev nD) : Prop where
  c1 : g1 = 1#1 ↔ ¬ hasP b c
  c2 : g2 = 1#1 ↔ hasP b c
  c3 : g3 = 1#1 ↔ hasN b c
  c4 : g4 = 1#1 ↔ ¬ hasP (!b) c
  c5 : g5 = 1#1 ↔ hasP (!b) c
  c6 : g6 = 1#1 ↔ hasN (!b) c
  e1 : ∀ h h', o1 h h' = ![512 * (ln c).val, 256 * s.val]
  e2 : ∀ h h', o2 h h' = ![512 * (ln c).val, 256 * s.val]
  e3 : ∀ h h', n3 h h' = nx b c
  e4 : ∀ h h', o4 h h' = ![512 * (ln c).val, 256 * s.val]
  e5 : ∀ h h', o5 h h' = ![512 * (ln c).val, 256 * s.val]
  e6 : ∀ h h', n6 h h' = nx (!b) c

/-- The device lies in the lower half of its lane. -/
abbrev Low (c : Dev nD) : Prop := c.val % 4 ≤ 1

/-- What one direction of one half leaves in the end. -/
def dirDone (b : Bool) (s : Fin 2) (c : Dev nD) : sProp 𝕄 :=
  iprop(fin m ρ c (kRecv b s) ∗ anyAt c (inH b s) ∗ sendMid m ρ b s c ∗ owns (c : Thread nD τ) (outH b s) fullShare.right (chain m ρ b c s))

theorem any_of_sat (c : Dev nD) (M : Memref sig .tc .vmem S512x256 .f32) (Φ : Vec F S512x256 .f32 → Prop) :
    (ownsSat (c : Thread nD τ) M fullShare Φ : sProp 𝕄) ⊢ ownsSat (c : Thread nD τ) M fullShare (fun _ => True) := by
  unfold ownsSat
  iintro ⟨%f, -, H⟩
  iexists f
  isplitr; · ipureintro; trivial
  iexact H

/-- Both directions in whichever order, and then the lane's sum. -/
theorem laneP_at (s : Fin 2) (c : Dev nD) (A : Finset Due) {g g1 g2 g3 g4 g5 g6 g' g1' g2' g3' g4' g5' g6' d d' : BitVec 1}
    {o1 : g = 1#1 → Offs g1} {p1 : ∀ h, InB (o1 h)} {o2 : g = 1#1 → Offs g2} {p2 : ∀ h, InB (o2 h)}
    {n3 : g = 1#1 → g3 = 1#1 → Dev nD} {o4 : g = 1#1 → Offs g4} {p4 : ∀ h, InB (o4 h)} {o5 : g = 1#1 → Offs g5} {p5 : ∀ h, InB (o5 h)}
    {n6 : g = 1#1 → g6 = 1#1 → Dev nD}
    {o1' : g' = 1#1 → Offs g1'} {p1' : ∀ h, InB (o1' h)} {o2' : g' = 1#1 → Offs g2'} {p2' : ∀ h, InB (o2' h)}
    {n3' : g' = 1#1 → g3' = 1#1 → Dev nD} {o4' : g' = 1#1 → Offs g4'} {p4' : ∀ h, InB (o4' h)} {o5' : g' = 1#1 → Offs g5'} {p5' : ∀ h, InB (o5' h)}
    {n6' : g' = 1#1 → g6' = 1#1 → Dev nD}
    {o : Offs d} {p : InB o} {o' : Offs d'} {p' : InB o'}
    (hg : g = 1#1 ↔ Low c) (hg' : g' = 1#1 ↔ ¬ Low c)
    (H : PairOk false s c g g1 g2 g3 g4 g5 g6 o1 o2 n3 o4 o5 n6) (H' : PairOk true s c g' g1' g2' g3' g4' g5' g6' o1' o2' n3' o4' o5' n6')
    (hd : d = 1#1 ↔ hasN false c) (hd' : d' = 1#1 ↔ ¬ hasN false c)
    (ho : ∀ h, o h = ![512 * (ln c).val, 256 * s.val]) (ho' : ∀ h, o' h = ![512 * (ln c).val, 256 * s.val])
    (hl1 : Low c → Below false s c A) (hl2 : Low c → Below true s c (insert (iChain false s) A))
    (hl3 : ¬ Low c → Below true s c A) (hl4 : ¬ Low c → Below false s c (insert (iChain true s) A))
    (hA : iChain false s ∉ A) (hA' : iChain true s ∉ A) :
    iprop(records m ρ K ∗ xO m ρ c ∗ ow c A ∗ dirPre m ρ false s c ∗ dirPre m ρ true s c ∗ anyAt c (oR (ln c) s))
      ⊢ iprop((iprop(xO m ρ c ∗ ow c (insert (iChain true s) (insert (iChain false s) A)) ∗ dirDone m ρ false s c ∗ dirDone m ρ true s c
            ∗ owns (c : Thread nD τ) (oR (ln c) s) fullShare (tot m ρ c s)) -∗ WP c k Q)
          -∗ WP c (pairP false s g g1 g2 g3 g4 g5 g6 o1 p1 o2 p2 n3 o4 p4 o5 p5 n6 <|
              pairP true s g' g1' g2' g3' g4' g5' g6' o1' p1' o2' p2' n3' o4' p4' o5' p5' n6' <|
              meetP s d o p <| lastP s d' o' p' k) Q) := by
  have key : iprop(xO m ρ c ∗ ow c (insert (iChain true s) (insert (iChain false s) A)) ∗ dirPost m ρ false s c ∗ dirPost m ρ true s c ∗ anyAt c (oR (ln c) s))
      ⊢ iprop((iprop(xO m ρ c ∗ ow c (insert (iChain true s) (insert (iChain false s) A)) ∗ dirDone m ρ false s c ∗ dirDone m ρ true s c
            ∗ owns (c : Thread nD τ) (oR (ln c) s) fullShare (tot m ρ c s)) -∗ WP c k Q)
          -∗ WP c (meetP s d o p <| lastP s d' o' p' k) Q) := by
    unfold dirPost dirDone
    iintro ⟨Hx, HO, ⟨Hf1, Hi1, Hs1, Ho1⟩, ⟨Hf2, Hi2, Hs2, Ho2⟩, Hr⟩ Hk
    iapply (sumP_at m ρ s c hd hd' ho ho') $$ [Ho1 Hi2 Hr]
    · isplitl [Ho1]; · iexact Ho1
      isplitl [Hi2]; · iexact Hi2
      iexact Hr
    iintro ⟨Ho1, Hi2, Hr⟩
    iapply Hk
    isplitl [Hx]; · iexact Hx
    isplitl [HO]; · iexact HO
    isplitl [Hf1 Hi1 Hs1 Ho1]
    · isplitl [Hf1]; · iexact Hf1
      isplitl [Hi1]; · unfold inV; iapply (any_of_sat c (inH false s) _); iexact Hi1
      isplitl [Hs1]; · iexact Hs1
      iexact Ho1
    isplitl [Hf2 Hi2 Hs2 Ho2]
    · isplitl [Hf2]; · iexact Hf2
      isplitl [Hi2]; · iexact Hi2
      isplitl [Hs2]; · iexact Hs2
      iexact Ho2
    iexact Hr
  by_cases h : Low c
  · rw [pairP_skip true s (fun hh => hg'.mp hh h)]
    iintro ⟨#HR, Hx, HO, H1, H2, Hr⟩ Hk
    iapply (pairP_at m ρ K false s c A (hg.mpr h) H.c1 H.c2 H.c3 H.c4 H.c5 H.c6 H.e1 H.e2 H.e3 H.e4 H.e5 H.e6 (hl1 h) (hl2 h) hA hA') $$ [Hx HO H1 H2]
    · isplitr; · iexact HR
      isplitl [Hx]; · iexact Hx
      isplitl [HO]; · iexact HO
      isplitl [H1]; · iexact H1
      iexact H2
    iintro ⟨Hx, HO, H1, H2⟩
    iapply key $$ [Hx HO H1 H2 Hr]
    · isplitl [Hx]; · iexact Hx
      isplitl [HO]; · iexact HO
      isplitl [H1]; · iexact H1
      isplitl [H2]; · iexact H2
      iexact Hr
    iexact Hk
  · rw [pairP_skip false s (fun hh => h (hg.mp hh))]
    iintro ⟨#HR, Hx, HO, H1, H2, Hr⟩ Hk
    iapply (pairP_at m ρ K true s c A (hg'.mpr h) H'.c1 H'.c2 H'.c3 H'.c4 H'.c5 H'.c6 H'.e1 H'.e2 H'.e3 H'.e4 H'.e5 H'.e6 (hl3 h) (hl4 h) hA' hA) $$ [Hx HO H1 H2]
    · isplitr; · iexact HR
      isplitl [Hx]; · iexact Hx
      isplitl [HO]; · iexact HO
      isplitl [H2]; · iexact H2
      iexact H1
    rw [show insert (iChain (!true) s) (insert (iChain true s) A) = insert (iChain true s) (insert (iChain false s) A) from Finset.insert_comm _ _ _]
    iintro ⟨Hx, HO, H2, H1⟩
    iapply key $$ [Hx HO H1 H2 Hr]
    · isplitl [Hx]; · iexact Hx
      isplitl [HO]; · iexact HO
      isplitl [H1]; · iexact H1
      isplitl [H2]; · iexact H2
      iexact Hr
    iexact Hk

/-! ## The dues done so far -/

def A0 : Finset Due := insert 2 (insert 3 (insert 1 (insert 0 ∅)))
def A1 : Finset Due := insert (iChain true 0) (insert (iChain false 0) A0)
def A2 : Finset Due := insert (iX 2) (insert (iX 0) A1)
def A3 : Finset Due := insert (iChain true 1) (insert (iChain false 1) A2)
def A4 : Finset Due := insert (iX 4) (insert (iX 1) A3)
def A5 : Finset Due := insert (iX 3) A4
def A6 : Finset Due := insert (iX 5) A5

theorem A6_all : ∀ i : Due, i.val < 14 → i ∈ A6 := by decide

/-! ## The two halves along the lane -/

theorem seg0P_at (c : Dev nD) :
    iprop(records m ρ K ∗ xO m ρ c ∗ ow c A0 ∗ dirPre m ρ false 0 c ∗ dirPre m ρ true 0 c ∗ anyAt c (oR (ln c) 0))
      ⊢ iprop((iprop(xO m ρ c ∗ ow c A1 ∗ dirDone m ρ false 0 c ∗ dirDone m ρ true 0 c
            ∗ owns (c : Thread nD τ) (oR (ln c) 0) fullShare (tot m ρ c 0)) -∗ WP c k Q) -∗ WP c (seg0P c k) Q) :=
  laneP_at m ρ K 0 c A0 (cond5_iff c) (cond12_iff c)
    ⟨cond6_iff c, cond7_iff c, cond8_iff c, cond9_iff c, cond10_iff c, cond11_iff c, fun _ _ => off1_is c, fun _ _ => off2_is c,
      fun _ h => Fin.ext (dev5_is c ((cond8_iff c).mp h)), fun _ _ => off3_is c, fun _ _ => off4_is c, fun _ h => Fin.ext (dev6_is c ((cond11_iff c).mp h))⟩
    ⟨cond13_iff c, cond14_iff c, cond15_iff c, cond16_iff c, cond17_iff c, cond18_iff c, fun _ _ => off5_is c, fun _ _ => off6_is c,
      fun _ h => Fin.ext (dev7_is c ((cond15_iff c).mp h)), fun _ _ => off7_is c, fun _ _ => off8_is c, fun _ h => Fin.ext (dev8_is c ((cond18_iff c).mp h))⟩
    (cond19_iff c) (cond20_iff c) (fun _ => off9_is c) (fun _ => off10_is c)
    (by revert c; decide +kernel) (by revert c; decide +kernel) (by revert c; decide +kernel) (by revert c; decide +kernel) (by decide) (by decide)

theorem seg1P_at (c : Dev nD) :
    iprop(records m ρ K ∗ xO m ρ c ∗ ow c A2 ∗ dirPre m ρ false 1 c ∗ dirPre m ρ true 1 c ∗ anyAt c (oR (ln c) 1))
      ⊢ iprop((iprop(xO m ρ c ∗ ow c A3 ∗ dirDone m ρ false 1 c ∗ dirDone m ρ true 1 c
            ∗ owns (c : Thread nD τ) (oR (ln c) 1) fullShare (tot m ρ c 1)) -∗ WP c k Q) -∗ WP c (seg1P c k) Q) :=
  laneP_at m ρ K 1 c A2 (cond21_iff c) (cond28_iff c)
    ⟨cond22_iff c, cond23_iff c, cond24_iff c, cond25_iff c, cond26_iff c, cond27_iff c, fun _ _ => off12_is c, fun _ _ => off13_is c,
      fun _ h => Fin.ext (dev11_is c ((cond24_iff c).mp h)), fun _ _ => off14_is c, fun _ _ => off15_is c, fun _ h => Fin.ext (dev12_is c ((cond27_iff c).mp h))⟩
    ⟨cond29_iff c, cond30_iff c, cond31_iff c, cond32_iff c, cond33_iff c, cond34_iff c, fun _ _ => off16_is c, fun _ _ => off17_is c,
      fun _ h => Fin.ext (dev13_is c ((cond31_iff c).mp h)), fun _ _ => off18_is c, fun _ _ => off19_is c, fun _ h => Fin.ext (dev14_is c ((cond34_iff c).mp h))⟩
    (cond35_iff c) (cond36_iff c) (fun _ => off20_is c) (fun _ => off21_is c)
    (by revert c; decide +kernel) (by revert c; decide +kernel) (by revert c; decide +kernel) (by revert c; decide +kernel) (by decide) (by decide)

/-! ## The departures along the lane -/

theorem drainP_at (b : Bool) (c : Dev nD) {g : BitVec 1} (hg : g = 1#1 ↔ hasN b c) :
    iprop(records m ρ K ∗ ow c A6 ∗ sendMid m ρ b 0 c ∗ sendMid m ρ b 1 c)
      ⊢ iprop((iprop(ow c A6
            ∗ (owns (c : Thread nD τ) (outH b 0) fullShare.left (chain m ρ b c 0) ∗ fin m ρ c (kSend b 0))
            ∗ (owns (c : Thread nD τ) (outH b 1) fullShare.left (chain m ρ b c 1) ∗ fin m ρ c (kSend b 1))) -∗ WP c k Q)
          -∗ WP c (drainP b g k) Q) := by
  have hl : ∀ kk : Fin 21, ∀ i : Due, i.val < 14 → dAct i c = true → i ∉ A6 → kLev c kk < kLev (dDev i c) (dKind i) :=
    fun _ i h1 _ h2 => absurd (A6_all i h1) h2
  unfold sendMid
  by_cases h : g = 1#1
  · have hn := hg.mp h
    rw [drainP, dif_pos h, if_pos hn, if_pos hn]
    simp only [Prog.lift, Prog.bind_op, Prog.bind_ret]
    iintro ⟨#HR, HO, ⟨Hc0, Hp0⟩, ⟨Hc1, Hp1⟩⟩ Hk
    iapply (wait_at m ρ K c (kSend b 0) A6 (sndS_eq b 0) (kSend_ne b 0) ((kAct_send b 0 c).trans (decide_eq_true hn)) (outH_credit b 0) (hl _)) $$ [HO Hc0 Hp0]
    · isplitr; · iexact HR
      isplitl [HO]; · iexact HO
      isplitl [Hc0]; · iexact Hc0
      iexact Hp0
    rw [kPay_send]; unfold sendPay
    iintro ⟨HO, Hf0, H0⟩
    iapply (wait_at m ρ K c (kSend b 1) A6 (sndS_eq b 1) (kSend_ne b 1) ((kAct_send b 1 c).trans (decide_eq_true hn)) (outH_credit b 1) (hl _)) $$ [HO Hc1 Hp1]
    · isplitr; · iexact HR
      isplitl [HO]; · iexact HO
      isplitl [Hc1]; · iexact Hc1
      iexact Hp1
    rw [kPay_send]; unfold sendPay
    iintro ⟨HO, Hf1, H1⟩
    iapply Hk
    isplitl [HO]; · iexact HO
    isplitl [Hf0 H0]
    · isplitl [H0]; · iexact H0
      iexact Hf0
    isplitl [H1]; · iexact H1
    iexact Hf1
  · have hn : ¬ hasN b c := fun hh => h (hg.mpr hh)
    rw [drainP, dif_neg h, if_neg hn, if_neg hn]
    iintro ⟨#HR, HO, H0, H1⟩ Hk
    iapply Hk
    isplitl [HO]; · iexact HO
    isplitl [H0]; · iexact H0
    iexact H1

end Cert.LaneSum

end
-- ==== Proof.Handshake.lean ====
/-
The barrier: each device hands the places it will be written at to those who will write there.
-/
module

public import proofs.«01_k».proof.Proof.Segments

@[expose] public section

set_option maxRecDepth 100000

noncomputable section

namespace Cert.LaneSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 21 → ℕ)

variable {α : Type} {Q : α → sProp (MT nD τ sig Unit (Elt F) ℕ UU ℕ)} {k : Code F α}

/-- Credit for `n` units of the barrier. -/
def bcr (c : Dev nD) (n : ℕ) : sProp 𝕄 := cred (tallyAt ((c : Thread nD τ), .reg barS) () n)

/-- What a conditional part holds. -/
abbrev opt (p : Prop) [Decidable p] (X : sProp 𝕄) : sProp 𝕄 := if p then X else iprop(emp)

/-- A signal to every neighbour, the guarded ones included; -/
theorem signal1P_at (i : Due) (c : Dev nD) (A : Finset Due) {n : Dev nD} (hn : n = dDev i c) (hk : dKind i = 0) (hi : i.val < 14) (ha : dAct i c = true) (hA : i ∉ A) :
    iprop(records m ρ K ∗ ow c A ∗ tok c i ∗ barPay (dDev i c) (dDuty i))
      ⊢ iprop((ow c (insert i A) -∗ WP c k Q) -∗ WP c (signal1P n k) Q) := by
  unfold signal1P semSignalWord
  simp only [Prog.lift, Prog.bind_op, Prog.bind_ret]
  exact signal_at m ρ K (k := fun _ => k) (Q := Q) c n (dDev i c) i A hn rfl hk hi ha hA (by decide) rfl

theorem signalP_at (i : Due) (c : Dev nD) (A : Finset Due) {g : BitVec 1} {n : g = 1#1 → Dev nD} (hg : g = 1#1 ↔ dAct i c = true) (hn : ∀ h, n h = dDev i c)
    (hk : dKind i = 0) (hi : i.val < 14) (hA : i ∉ A) :
    iprop(records m ρ K ∗ ow c A ∗ tok c i ∗ opt (dAct i c = true) (barPay (dDev i c) (dDuty i)))
      ⊢ iprop((ow c (insert i A) -∗ WP c k Q) -∗ WP c (signalP g n k) Q) := by
  by_cases h : g = 1#1
  · have ha := hg.mp h
    rw [signalP, dif_pos h, opt, if_pos ha]
    exact signal1P_at m ρ K i c A (hn h) hk hi ha hA
  · have ha : ¬ dAct i c = true := fun hh => h (hg.mpr hh)
    rw [signalP, dif_neg h]
    iintro ⟨-, HO, -, -⟩ Hk
    iapply Hk
    iapply (ow_skip c A i ha); iexact HO

theorem bar_lev : ∀ (c : Dev nD) (i : Due), i.val < 14 → dAct i c = true → i ∉ A0 → kLev c 0 < kLev (dDev i c) (dKind i) := by decide +kernel

/-- and the waits for theirs. -/
theorem barWait2P_at (c : Dev nD) (hle : 2 ≤ (kDuties c 0).card) :
    iprop(records m ρ K ∗ ow c A0 ∗ bcr c 2 ∗ barAt m ρ c 0) ⊢ iprop((iprop(ow c A0 ∗ barAt m ρ c 2) -∗ WP c k Q) -∗ WP c (barWait2P k) Q) := by
  unfold barWait2P semWaitWord
  simp only [Prog.lift, Prog.bind_op, Prog.bind_ret]
  exact barWait_at m ρ K (k := fun _ => k) (Q := Q) c 0 2 A0 rfl rfl (by decide) hle (bar_lev c)

theorem barWaitP_at (c : Dev nD) (p : Prop) [Decidable p] (n : ℕ) {g : BitVec 1} (hg : g = 1#1 ↔ p) (hle : p → n + 1 ≤ (kDuties c 0).card) :
    iprop(records m ρ K ∗ ow c A0 ∗ opt p (bcr c 1) ∗ barAt m ρ c n)
      ⊢ iprop((iprop(ow c A0 ∗ barAt m ρ c (n + if p then 1 else 0)) -∗ WP c k Q) -∗ WP c (barWaitP g k) Q) := by
  by_cases h : g = 1#1
  · have hp := hg.mp h
    rw [barWaitP, dif_pos h, opt, if_pos hp, if_pos hp]
    unfold semWaitWord
    simp only [Prog.lift, Prog.bind_op, Prog.bind_ret]
    exact barWait_at m ρ K (k := fun _ => k) (Q := Q) c n (n + 1) A0 rfl rfl (by decide) (hle hp) (bar_lev c)
  · have hp : ¬ p := fun hh => h (hg.mpr hh)
    rw [barWaitP, dif_neg h, if_neg hp]
    iintro ⟨-, HO, -, HB⟩ Hk
    iapply Hk
    isplitl [HO]; · iexact HO
    iexact HB

/-- How many signals come. -/
theorem kDuties_card : ∀ c : Dev nD, (2 + if hasN false c then 1 else 0) + (if hasP false c then 1 else 0) = (kDuties c 0).card := by decide +kernel

theorem duties_both : ∀ c : Dev nD, hasN false c → hasN true c → kDuties c 0 = {0, 1, 2, 3} := by decide +kernel
theorem duties_up : ∀ c : Dev nD, hasN false c → ¬ hasN true c → kDuties c 0 = {0, 1, 2} := by decide +kernel
theorem duties_down : ∀ c : Dev nD, ¬ hasN false c → hasN true c → kDuties c 0 = {0, 1, 3} := by decide +kernel
theorem duties_some : ∀ c : Dev nD, ¬ hasN false c → hasN true c := by decide +kernel

theorem duties_split (c : Dev nD) (Φ : Fin 4 → sProp 𝕄) :
    bigSep (kDuties c 0) Φ ⊢ iprop(Φ 0 ∗ Φ 1 ∗ opt (hasN false c) (Φ 2) ∗ opt (hasN true c) (Φ 3)) := by
  unfold opt
  by_cases h : hasN false c
  · by_cases h' : hasN true c
    · rw [duties_both c h h', if_pos h, if_pos h', bigSep_insert (by decide), bigSep_insert (by decide), bigSep_insert (by decide), bigSep_singleton]
      exact .rfl
    · rw [duties_up c h h', if_pos h, if_neg h', bigSep_insert (by decide), bigSep_insert (by decide), bigSep_singleton]
      show iprop(Φ 0 ∗ Φ 1 ∗ Φ 2) ⊢ _
      iintro ⟨H0, H1, H2⟩
      isplitl [H0]; · iexact H0
      isplitl [H1]; · iexact H1
      isplitl [H2]; · iexact H2
      iempintro
  · have h' := duties_some c h
    rw [duties_down c h h', if_neg h, if_pos h', bigSep_insert (by decide), bigSep_insert (by decide), bigSep_singleton]
    show iprop(Φ 0 ∗ Φ 1 ∗ Φ 3) ⊢ _
    iintro ⟨H0, H1, H3⟩
    isplitl [H0]; · iexact H0
    isplitl [H1]; · iexact H1
    isplitr; · iempintro
    iexact H3

theorem dAct_2 (c : Dev nD) : dAct 2 c = true ↔ hasP false c := by revert c; decide +kernel
theorem dAct_3 (c : Dev nD) : dAct 3 c = true ↔ hasP true c := by revert c; decide +kernel
theorem dAct_3' (c : Dev nD) : dAct 3 c = true ↔ hasN false c := by revert c; decide +kernel
theorem pv_true (c : Dev nD) : nx false c = dDev 3 c := by revert c; decide +kernel
theorem pv_false (c : Dev nD) : nx true c = dDev 2 c := by revert c; decide +kernel

theorem barPay_0 (c : Dev nD) : (barPay (dDev 0 c) (dDuty 0) : sProp 𝕄) = iprop(land 0 c ∗ land 4 c ∗ land 5 c) := by
  show barPay (xd c) 0 = _; unfold barPay; rw [if_pos rfl, xd_xd]
theorem barPay_1 (c : Dev nD) : (barPay (dDev 1 c) (dDuty 1) : sProp 𝕄) = iprop(land 1 c ∗ land 2 c ∗ land 3 c) := by
  show barPay (yd c) 1 = _; unfold barPay; rw [if_neg (by decide), if_pos rfl, yd_yd]
theorem barPay_2 (c : Dev nD) : (barPay (dDev 2 c) (dDuty 2) : sProp 𝕄) = landC false c := by
  show barPay (nx true c) 2 = _; unfold barPay; rw [if_neg (by decide), if_neg (by decide), if_pos rfl, show nx false (nx true c) = c from nx_pv false c]
theorem barPay_3 (c : Dev nD) : (barPay (dDev 3 c) (dDuty 3) : sProp 𝕄) = landC true c := by
  show barPay (nx false c) 3 = _; unfold barPay; rw [if_neg (by decide), if_neg (by decide), if_neg (by decide), show nx true (nx false c) = c from nx_pv true c]

theorem barPay_in0 (c : Dev nD) : (barPay c 0 : sProp 𝕄) = iprop(land 0 (px 0 c) ∗ land 4 (px 4 c) ∗ land 5 (px 5 c)) := by
  unfold barPay; rw [if_pos rfl]; rfl
theorem barPay_in1 (c : Dev nD) : (barPay c 1 : sProp 𝕄) = iprop(land 1 (px 1 c) ∗ land 2 (px 2 c) ∗ land 3 (px 3 c)) := by
  unfold barPay; rw [if_neg (by decide), if_pos rfl]; rfl
theorem barPay_in2 (c : Dev nD) : (barPay c 2 : sProp 𝕄) = landC false (nx false c) := by
  unfold barPay; rw [if_neg (by decide), if_neg (by decide), if_pos rfl]
theorem barPay_in3 (c : Dev nD) : (barPay c 3 : sProp 𝕄) = landC true (nx true c) := by
  unfold barPay; rw [if_neg (by decide), if_neg (by decide), if_neg (by decide)]

/-- The whole barrier: the own landing places go out, the neighbours' come in. -/
theorem barP_at (c : Dev nD) :
    iprop(records m ρ K ∗ ow c ∅ ∗ (tok c 0 ∗ tok c 1 ∗ tok c 2 ∗ tok c 3)
        ∗ (land 0 c ∗ land 4 c ∗ land 5 c) ∗ (land 1 c ∗ land 2 c ∗ land 3 c) ∗ opt (hasP false c) (landC false c) ∗ opt (hasP true c) (landC true c)
        ∗ pos c 0 ∗ bcr c 2 ∗ opt (hasN false c) (bcr c 1) ∗ opt (hasP false c) (bcr c 1))
      ⊢ iprop((iprop(ow c A0 ∗ fin m ρ c 0 ∗ (land 0 (px 0 c) ∗ land 4 (px 4 c) ∗ land 5 (px 5 c)) ∗ (land 1 (px 1 c) ∗ land 2 (px 2 c) ∗ land 3 (px 3 c))
            ∗ opt (hasN false c) (landC false (nx false c)) ∗ opt (hasN true c) (landC true (nx true c))) -∗ WP c k Q)
          -∗ WP c (barP c k) Q) := by
  unfold barP
  iintro ⟨#HR, HO, ⟨T0, T1, T2, T3⟩, L0, L1, L2, L3, Hp, C2, C1, C1'⟩ Hk
  iapply (signal1P_at m ρ K 0 c ∅ (Fin.ext (dev1_is c)) rfl (by decide) rfl (by decide)) $$ [HO T0 L0]
  · isplitr; · iexact HR
    isplitl [HO]; · iexact HO
    isplitl [T0]; · iexact T0
    rw [barPay_0]; iexact L0
  iintro HO
  iapply (signal1P_at m ρ K 1 c (insert 0 ∅) (Fin.ext (dev2_is c)) rfl (by decide) rfl (by decide)) $$ [HO T1 L1]
  · isplitr; · iexact HR
    isplitl [HO]; · iexact HO
    isplitl [T1]; · iexact T1
    rw [barPay_1]; iexact L1
  iintro HO
  iapply (signalP_at m ρ K 3 c (insert 1 (insert 0 ∅)) ((cond1_iff c).trans (dAct_3' c).symm)
    (fun h => (Fin.ext (dev3_is c ((cond1_iff c).mp h)) : (⟨k0_dev3 c, _⟩ : Dev nD) = nx false c).trans (pv_true c)) rfl (by decide) (by decide)) $$ [HO T3 L3]
  · isplitr; · iexact HR
    isplitl [HO]; · iexact HO
    isplitl [T3]; · iexact T3
    rw [barPay_3]; simp only [opt, dAct_3]; iexact L3
  iintro HO
  iapply (signalP_at m ρ K 2 c (insert 3 (insert 1 (insert 0 ∅))) ((cond2_iff c).trans (dAct_2 c).symm)
    (fun h => (Fin.ext (dev4_is c ((cond2_iff c).mp h)) : (⟨k0_dev4 c, _⟩ : Dev nD) = nx true c).trans (pv_false c)) rfl (by decide) (by decide)) $$ [HO T2 L2]
  · isplitr; · iexact HR
    isplitl [HO]; · iexact HO
    isplitl [T2]; · iexact T2
    rw [barPay_2]; simp only [opt, dAct_2]; iexact L2
  rw [show insert 2 (insert 3 (insert 1 (insert 0 ∅))) = A0 from rfl]
  iintro HO
  have hc := kDuties_card c
  iapply (barWait2P_at m ρ K c (by omega)) $$ [HO C2 Hp]
  · isplitr; · iexact HR
    isplitl [HO]; · iexact HO
    isplitl [C2]; · iexact C2
    unfold barAt pos
    rw [if_pos (by omega)]
    iexists ∅
    isplitr; · ipureintro; exact Finset.empty_subset _
    isplitl [Hp]; · iexact Hp
    rw [bigSep_empty]
    iempintro
  iintro ⟨HO, HB⟩
  iapply (barWaitP_at m ρ K c (hasN false c) 2 (gLt_iff c) (fun h => by rw [if_pos h] at hc; omega)) $$ [HO C1 HB]
  · isplitr; · iexact HR
    isplitl [HO]; · iexact HO
    isplitl [C1]; · iexact C1
    iexact HB
  iintro ⟨HO, HB⟩
  iapply (barWaitP_at m ρ K c (hasP false c) (2 + if hasN false c then 1 else 0) (gGt_iff c) (fun h => by rw [if_pos h] at hc; omega)) $$ [HO C1' HB]
  · isplitr; · iexact HR
    isplitl [HO]; · iexact HO
    isplitl [C1']; · iexact C1'
    iexact HB
  rw [hc, show barAt m ρ c (kDuties c 0).card = _ from if_neg (by omega)]
  iintro ⟨HO, Hf, HB⟩
  ihave HB' := (duties_split c (fun d => barPay (F := F) c d)) $$ HB
  rw [barPay_in0, barPay_in1, barPay_in2, barPay_in3]
  icases HB' with ⟨B0, B1, B2, B3⟩
  iapply Hk
  isplitl [HO]; · iexact HO
  isplitl [Hf]; · iexact Hf
  isplitl [B0]; · iexact B0
  isplitl [B1]; · iexact B1
  isplitl [B2]; · iexact B2
  iexact B3

end Cert.LaneSum

end
-- ==== Proof.Exchange.lean ====
/-
The copies between lanes and the waits for them.
-/
module

public import proofs.«01_k».proof.Proof.Segments

@[expose] public section

set_option maxRecDepth 100000

noncomputable section

namespace Cert.LaneSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 21 → ℕ)

variable {α : Type} {Q : α → sProp (MT nD τ sig Unit (Elt F) ℕ UU ℕ)} {k : Code F α}

theorem kXr_ne (i : Fin 6) : kXr i ≠ 0 := by revert i; decide
theorem kXs_ne (i : Fin 6) : kXs i ≠ 0 := by revert i; decide
theorem kAct_xr (c : Dev nD) (i : Fin 6) : kAct c (kXr i) = true := by revert c i; decide +kernel
theorem kAct_xs (c : Dev nD) (i : Fin 6) : kAct c (kXs i) = true := by revert c i; decide +kernel
theorem iX_lt (i : Fin 6) : (iX i).val < 14 := by revert i; decide
theorem dAct_iX (c : Dev nD) (i : Fin 6) : dAct (iX i) c = true := by revert c i; decide +kernel
theorem dAct_jX (c : Dev nD) (i : Fin 6) : dAct (jX i) c = true := by revert c i; decide +kernel
theorem oR_credit (q : Fin 4) (s : Fin 2) : (oR q s).view.dmaCredit = N := by revert q s; decide

/-! ## One copy between lanes, and one wait -/

theorem xsendP_at (i : Fin 6) (c : Dev nD) (A : Finset Due) {o : Fin 2 → Nat} {p : ∀ a, o a + S512x256.size a ≤ S2048x512.size a} {n : Dev nD}
    (ho : o = ![512 * (ln (sd i c)).val, 256 * (hf i).val]) (hn : n = px i c) (hA : iX i ∉ A) :
    iprop(records m ρ K ∗ ow c A ∗ tok c (iX i) ∗ tok c (jX i) ∗ xsPay m ρ i c ∗ land i (px i c))
      ⊢ iprop((iprop(crd c (kXs i) ∗ ow c (insert (iX i) A)) -∗ WP c k Q) -∗ WP c (xsendP i o p n k) Q) := by
  subst ho
  unfold xsPay land
  rw [rd_px, xsendP]
  simp only [Prog.lift, Prog.bind_op, Prog.bind_ret]
  rw [← dKind_jX i]
  exact send_at m ρ K (k := fun _ => k) (Q := Q) c n (px i c) (iX i) (jX i) A (xShare i) (tot m ρ (sd i c) (hf i)) hn (dDev_iX i c) (dDev_jX i c) rfl rfl
    ((xsS_eq i).trans (congrArg csem (dKind_jX i).symm)) ((xrS_eq i).trans (congrArg csem (dKind_iX i).symm))
    (dKind_iX i ▸ kXr_ne i) (dKind_jX i ▸ kXs_ne i)
    (by rw [dKind_iX, kPay_xr]; unfold xrPay; rw [rd_px]) (by rw [dKind_jX, kPay_xs]; rfl)
    (oR_credit _ _) (iX_lt i) (dAct_iX c i) (dAct_jX c i) hA

theorem xwaitP_at (kk : Fin 21) (c : Dev nD) (A : Finset Due) (q : Fin 4) (s : Fin 2) {sm : DmaSem sig} {o : Fin 2 → Nat}
    {p : ∀ a, o a + S512x256.size a ≤ S2048x512.size a} (hS : (SemLoc.dma sm : SemLoc sig) = csem kk) (hk : kk ≠ 0) (ha : kAct c kk = true)
    (ho : o = ![512 * q.val, 256 * s.val])
    (hlev : ∀ i : Due, i.val < 14 → dAct i c = true → i ∉ A → kLev c kk < kLev (dDev i c) (dKind i)) :
    iprop(records m ρ K ∗ ow c A ∗ crd c kk ∗ pos c kk)
      ⊢ iprop((iprop(ow c A ∗ fin m ρ c kk ∗ kPay m ρ c 0 kk) -∗ WP c k Q) -∗ WP c (xwaitP sm o p k) Q) := by
  subst ho
  rw [xwaitP]
  simp only [Prog.lift, Prog.bind_op, Prog.bind_ret]
  exact wait_at m ρ K (k := fun _ => k) (Q := Q) c kk A hS hk ha (oR_credit q s) hlev

/-- The wait for an arrival, -/
theorem recvP_at (i : Fin 6) (c : Dev nD) (A : Finset Due) (q : Fin 4) (s : Fin 2) {o : Fin 2 → Nat} {p : ∀ a, o a + S512x256.size a ≤ S2048x512.size a}
    (ho : o = ![512 * q.val, 256 * s.val])
    (hlev : ∀ i' : Due, i'.val < 14 → dAct i' c = true → i' ∉ A → kLev c (kXr i) < kLev (dDev i' c) (dKind i')) :
    iprop(records m ρ K ∗ ow c A ∗ crd c (kXr i) ∗ pos c (kXr i))
      ⊢ iprop((iprop(ow c A ∗ fin m ρ c (kXr i) ∗ xrPay m ρ i c) -∗ WP c k Q) -∗ WP c (xwaitP (xrS i) o p k) Q) := by
  have := xwaitP_at m ρ K (Q := Q) (k := k) (kXr i) c A q s (p := p) (xrS_eq i) (kXr_ne i) (kAct_xr c i) ho hlev
  rwa [kPay_xr] at this

theorem A6_lev (c : Dev nD) (kk : Fin 21) : ∀ i : Due, i.val < 14 → dAct i c = true → i ∉ A6 → kLev c kk < kLev (dDev i c) (dKind i) :=
  fun i h1 _ h2 => absurd (A6_all i h1) h2

/-- and for a departure, when nothing is owed any more. -/
theorem sentP_at (i : Fin 6) (c : Dev nD) (q : Fin 4) (s : Fin 2) {o : Fin 2 → Nat} {p : ∀ a, o a + S512x256.size a ≤ S2048x512.size a}
    (ho : o = ![512 * q.val, 256 * s.val]) :
    iprop(records m ρ K ∗ ow c A6 ∗ crd c (kXs i) ∗ pos c (kXs i))
      ⊢ iprop((iprop(ow c A6 ∗ fin m ρ c (kXs i) ∗ xsPay m ρ i c) -∗ WP c k Q) -∗ WP c (xwaitP (xsS i) o p k) Q) := by
  have := xwaitP_at m ρ K (Q := Q) (k := k) (kXs i) c A6 q s (p := p) (xsS_eq i) (kXs_ne i) (kAct_xs c i) ho (A6_lev c _)
  rwa [kPay_xs] at this

/-! ## The groups -/

/-- The means to send copy `i`: its tokens and the place it goes to. -/
def xPre (i : Fin 6) (c : Dev nD) : sProp 𝕄 := iprop(tok c (iX i) ∗ tok c (jX i) ∗ land i (px i c))
/-- The means to wait on an own semaphore. -/
def wPre (k : Fin 21) (c : Dev nD) : sProp 𝕄 := iprop(crd c k ∗ pos c k)

/-- Two copies of one region, at half of it each. -/
theorem sendTwo (i i' : Fin 6) (c : Dev nD) (A : Finset Due) (s : Fin 2) {o o' : Fin 2 → Nat} {p : ∀ a, o a + S512x256.size a ≤ S2048x512.size a}
    {p' : ∀ a, o' a + S512x256.size a ≤ S2048x512.size a} {n n' : Dev nD}
    (hi : sd i c = c) (hi' : sd i' c = c) (hs : hf i = s) (hs' : hf i' = s) (hq : xShare i = fullShare.left) (hq' : xShare i' = fullShare.right)
    (ho : o = ![512 * (ln c).val, 256 * s.val]) (ho' : o' = ![512 * (ln c).val, 256 * s.val]) (hn : n = px i c) (hn' : n' = px i' c)
    (hA : iX i ∉ A) (hA' : iX i' ∉ insert (iX i) A) :
    iprop(records m ρ K ∗ ow c A ∗ xPre i c ∗ xPre i' c ∗ owns (c : Thread nD τ) (oR (ln c) s) fullShare (tot m ρ c s))
      ⊢ iprop((iprop(crd c (kXs i) ∗ crd c (kXs i') ∗ ow c (insert (iX i') (insert (iX i) A))) -∗ WP c k Q)
        -∗ WP c (xsendP i o p n <| xsendP i' o' p' n' k) Q) := by
  have e : xsPay m ρ i c = owns (c : Thread nD τ) (oR (ln c) s) fullShare.left (tot m ρ c s) := by unfold xsPay; rw [hi, hs, hq]
  have e' : xsPay m ρ i' c = owns (c : Thread nD τ) (oR (ln c) s) fullShare.right (tot m ρ c s) := by unfold xsPay; rw [hi', hs', hq']
  unfold xPre
  iintro ⟨#HR, HO, ⟨Ht, Hu, Hd⟩, ⟨Ht', Hu', Hd'⟩, Ho⟩ Hk
  ihave Ho' := (owns_halves (c : Thread nD τ) (oR (ln c) s) fullShare (tot m ρ c s)).1 $$ Ho
  icases Ho' with ⟨Hl, Hr⟩
  iapply (xsendP_at m ρ K i c A (by rw [hi, hs]; exact ho) hn hA) $$ [HO Ht Hu Hd Hl]
  · isplitr; · iexact HR
    isplitl [HO]; · iexact HO
    isplitl [Ht]; · iexact Ht
    isplitl [Hu]; · iexact Hu
    isplitl [Hl]; · rw [e]; iexact Hl
    iexact Hd
  iintro ⟨Hc, HO⟩
  iapply (xsendP_at m ρ K i' c (insert (iX i) A) (by rw [hi', hs']; exact ho') hn' hA') $$ [HO Ht' Hu' Hd' Hr]
  · isplitr; · iexact HR
    isplitl [HO]; · iexact HO
    isplitl [Ht']; · iexact Ht'
    isplitl [Hu']; · iexact Hu'
    isplitl [Hr]; · rw [e']; iexact Hr
    iexact Hd'
  iintro ⟨Hc', HO⟩
  iapply Hk
  isplitl [Hc]; · iexact Hc
  isplitl [Hc']; · iexact Hc'
  iexact HO

theorem send0P_at (c : Dev nD) :
    iprop(records m ρ K ∗ ow c A1 ∗ xPre 0 c ∗ xPre 2 c ∗ owns (c : Thread nD τ) (oR (ln c) 0) fullShare (tot m ρ c 0))
      ⊢ iprop((iprop(crd c (kXs 0) ∗ crd c (kXs 2) ∗ ow c A2) -∗ WP c k Q) -∗ WP c (send0P c k) Q) :=
  sendTwo m ρ K 0 2 c A1 0 rfl rfl rfl rfl rfl rfl (off11_is c) (off11_is c) (Fin.ext (dev9_is c)) (Fin.ext (dev10_is c)) (by decide) (by decide)

theorem send1P_at (c : Dev nD) :
    iprop(records m ρ K ∗ ow c A3 ∗ xPre 1 c ∗ xPre 4 c ∗ owns (c : Thread nD τ) (oR (ln c) 1) fullShare (tot m ρ c 1))
      ⊢ iprop((iprop(crd c (kXs 1) ∗ crd c (kXs 4) ∗ ow c A4) -∗ WP c k Q) -∗ WP c (send1P c k) Q) :=
  sendTwo m ρ K 1 4 c A3 1 rfl rfl rfl rfl rfl rfl (off22_is c) (off22_is c) (Fin.ext (dev15_is c)) (Fin.ext (dev16_is c)) (by decide) (by decide)

/-- The relayed copies: each sends on what an earlier one brought. -/
theorem relay_pay (c : Dev nD) : xrPay m ρ 0 c = xsPay m ρ 3 c ∧ xrPay m ρ 1 c = xsPay m ρ 5 c := ⟨rfl, rfl⟩

theorem relayP_at (c : Dev nD) :
    iprop(records m ρ K ∗ ow c A4 ∗ wPre (kXr 0) c ∗ xPre 3 c ∗ wPre (kXr 1) c ∗ xPre 5 c)
      ⊢ iprop((iprop(fin m ρ c (kXr 0) ∗ crd c (kXs 3) ∗ fin m ρ c (kXr 1) ∗ crd c (kXs 5) ∗ ow c A6) -∗ WP c k Q) -∗ WP c (relayP c k) Q) := by
  unfold xPre wPre relayP
  iintro ⟨#HR, HO, ⟨Hc0, Hp0⟩, ⟨Ht, Hu, Hd⟩, ⟨Hc1, Hp1⟩, ⟨Ht', Hu', Hd'⟩⟩ Hk
  iapply (recvP_at m ρ K 0 c A4 _ _ (off11_is c) (by revert c; decide +kernel)) $$ [HO Hc0 Hp0]
  · isplitr; · iexact HR
    isplitl [HO]; · iexact HO
    isplitl [Hc0]; · iexact Hc0
    iexact Hp0
  rw [(relay_pay m ρ c).1]
  iintro ⟨HO, Hf0, Hl⟩
  iapply (xsendP_at m ρ K 3 c A4 (off23_is c) (Fin.ext (dev17_is c)) (by decide)) $$ [HO Ht Hu Hd Hl]
  · isplitr; · iexact HR
    isplitl [HO]; · iexact HO
    isplitl [Ht]; · iexact Ht
    isplitl [Hu]; · iexact Hu
    isplitl [Hl]; · iexact Hl
    iexact Hd
  iintro ⟨Hc3, HO⟩
  iapply (recvP_at m ρ K 1 c A5 _ _ (off22_is c) (by revert c; decide +kernel)) $$ [HO Hc1 Hp1]
  · isplitr; · iexact HR
    isplitl [HO]; · iexact HO
    isplitl [Hc1]; · iexact Hc1
    iexact Hp1
  rw [(relay_pay m ρ c).2]
  iintro ⟨HO, Hf1, Hl⟩
  iapply (xsendP_at m ρ K 5 c A5 (off24_is c) (Fin.ext (dev18_is c)) (by decide)) $$ [HO Ht' Hu' Hd' Hl]
  · isplitr; · iexact HR
    isplitl [HO]; · iexact HO
    isplitl [Ht']; · iexact Ht'
    isplitl [Hu']; · iexact Hu'
    isplitl [Hl]; · iexact Hl
    iexact Hd'
  iintro ⟨Hc5, HO⟩
  iapply Hk
  isplitl [Hf0]; · iexact Hf0
  isplitl [Hc3]; · iexact Hc3
  isplitl [Hf1]; · iexact Hf1
  isplitl [Hc5]; · iexact Hc5
  iexact HO

/-- An arrival waited for, -/
def xrDone (i : Fin 6) (c : Dev nD) : sProp 𝕄 := iprop(fin m ρ c (kXr i) ∗ xrPay m ρ i c)
/-- and a departure. -/
def xsDone (i : Fin 6) (c : Dev nD) : sProp 𝕄 := iprop(fin m ρ c (kXs i) ∗ xsPay m ρ i c)

theorem recvDone_at (i : Fin 6) (c : Dev nD) (q : Fin 4) (s : Fin 2) {o : Fin 2 → Nat} {p : ∀ a, o a + S512x256.size a ≤ S2048x512.size a}
    (ho : o = ![512 * q.val, 256 * s.val]) :
    iprop(records m ρ K ∗ ow c A6 ∗ wPre (kXr i) c)
      ⊢ iprop((iprop(ow c A6 ∗ xrDone m ρ i c) -∗ WP c k Q) -∗ WP c (xwaitP (xrS i) o p k) Q) :=
  recvP_at m ρ K i c A6 q s ho (A6_lev c _)

theorem sentDone_at (i : Fin 6) (c : Dev nD) (q : Fin 4) (s : Fin 2) {o : Fin 2 → Nat} {p : ∀ a, o a + S512x256.size a ≤ S2048x512.size a}
    (ho : o = ![512 * q.val, 256 * s.val]) :
    iprop(records m ρ K ∗ ow c A6 ∗ wPre (kXs i) c)
      ⊢ iprop((iprop(ow c A6 ∗ xsDone m ρ i c) -∗ WP c k Q) -∗ WP c (xwaitP (xsS i) o p k) Q) :=
  sentP_at m ρ K i c q s ho

theorem closeP_at (c : Dev nD) :
    iprop(records m ρ K ∗ ow c A6 ∗ wPre (kXr 2) c ∗ wPre (kXr 4) c ∗ wPre (kXr 3) c ∗ wPre (kXr 5) c ∗ wPre (kXs 0) c ∗ wPre (kXs 1) c ∗ wPre (kXs 2) c ∗ wPre (kXs 3) c ∗ wPre (kXs 4) c ∗ wPre (kXs 5) c)
      ⊢ iprop((iprop(ow c A6 ∗ xrDone m ρ 2 c ∗ xrDone m ρ 4 c ∗ xrDone m ρ 3 c ∗ xrDone m ρ 5 c ∗ xsDone m ρ 0 c ∗ xsDone m ρ 1 c ∗ xsDone m ρ 2 c ∗ xsDone m ρ 3 c ∗ xsDone m ρ 4 c ∗ xsDone m ρ 5 c) -∗ WP c k Q) -∗ WP c (closeP c k) Q) := by
  unfold closeP
  iintro ⟨#HR, HO, Wr2, Wr4, Wr3, Wr5, Ws0, Ws1, Ws2, Ws3, Ws4, Ws5⟩ Hk
  iapply (recvDone_at m ρ K 2 c _ _ (off11_is c)) $$ [HO Wr2]
  · isplitr; · iexact HR
    isplitl [HO]; · iexact HO
    iexact Wr2
  iintro ⟨HO, Dr2⟩
  iapply (recvDone_at m ρ K 4 c _ _ (off22_is c)) $$ [HO Wr4]
  · isplitr; · iexact HR
    isplitl [HO]; · iexact HO
    iexact Wr4
  iintro ⟨HO, Dr4⟩
  iapply (recvDone_at m ρ K 3 c _ _ (off23_is c)) $$ [HO Wr3]
  · isplitr; · iexact HR
    isplitl [HO]; · iexact HO
    iexact Wr3
  iintro ⟨HO, Dr3⟩
  iapply (recvDone_at m ρ K 5 c _ _ (off24_is c)) $$ [HO Wr5]
  · isplitr; · iexact HR
    isplitl [HO]; · iexact HO
    iexact Wr5
  iintro ⟨HO, Dr5⟩
  iapply (sentDone_at m ρ K 0 c _ _ (off11_is c)) $$ [HO Ws0]
  · isplitr; · iexact HR
    isplitl [HO]; · iexact HO
    iexact Ws0
  iintro ⟨HO, Ds0⟩
  iapply (sentDone_at m ρ K 1 c _ _ (off22_is c)) $$ [HO Ws1]
  · isplitr; · iexact HR
    isplitl [HO]; · iexact HO
    iexact Ws1
  iintro ⟨HO, Ds1⟩
  iapply (sentDone_at m ρ K 2 c _ _ (off11_is c)) $$ [HO Ws2]
  · isplitr; · iexact HR
    isplitl [HO]; · iexact HO
    iexact Ws2
  iintro ⟨HO, Ds2⟩
  iapply (sentDone_at m ρ K 3 c _ _ (off23_is c)) $$ [HO Ws3]
  · isplitr; · iexact HR
    isplitl [HO]; · iexact HO
    iexact Ws3
  iintro ⟨HO, Ds3⟩
  iapply (sentDone_at m ρ K 4 c _ _ (off22_is c)) $$ [HO Ws4]
  · isplitr; · iexact HR
    isplitl [HO]; · iexact HO
    iexact Ws4
  iintro ⟨HO, Ds4⟩
  iapply (sentDone_at m ρ K 5 c _ _ (off24_is c)) $$ [HO Ws5]
  · isplitr; · iexact HR
    isplitl [HO]; · iexact HO
    iexact Ws5
  iintro ⟨HO, Ds5⟩
  iapply Hk
  isplitl [HO]; · iexact HO
  isplitl [Dr2]; · iexact Dr2
  isplitl [Dr4]; · iexact Dr4
  isplitl [Dr3]; · iexact Dr3
  isplitl [Dr5]; · iexact Dr5
  isplitl [Ds0]; · iexact Ds0
  isplitl [Ds1]; · iexact Ds1
  isplitl [Ds2]; · iexact Ds2
  isplitl [Ds3]; · iexact Ds3
  isplitl [Ds4]; · iexact Ds4
  iexact Ds5

end Cert.LaneSum

end
-- ==== Proof.Body.lean ====
/-
The whole body on one device: what it takes and what it leaves.
-/
module

public import proofs.«01_k».proof.Proof.Handshake
public import proofs.«01_k».proof.Proof.Exchange

@[expose] public section

set_option maxRecDepth 100000

noncomputable section

namespace Cert.LaneSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 21 → ℕ)

variable {α : Type} {Q : PUnit → sProp (MT nD τ sig Unit (Elt F) ℕ UU ℕ)}

/-! ## Lists of what a device holds -/

theorem bigSep_due (Φ : Due → sProp 𝕄) : bigSep Finset.univ Φ = iprop(Φ 0 ∗ Φ 1 ∗ Φ 2 ∗ Φ 3 ∗ Φ (iChain false 0) ∗ Φ (iChain false 1) ∗ Φ (iChain true 0) ∗ Φ (iChain true 1) ∗ Φ (iX 0) ∗ Φ (iX 1) ∗ Φ (iX 2) ∗ Φ (iX 3) ∗ Φ (iX 4) ∗ Φ (iX 5) ∗ Φ (jChain false 0) ∗ Φ (jChain false 1) ∗ Φ (jChain true 0) ∗ Φ (jChain true 1) ∗ Φ (jX 0) ∗ Φ (jX 1) ∗ Φ (jX 2) ∗ Φ (jX 3) ∗ Φ (jX 4) ∗ Φ (jX 5)) :=
  bigSep_univ_eq_bigSepL [0, 1, 2, 3, iChain false 0, iChain false 1, iChain true 0, iChain true 1, iX 0, iX 1, iX 2, iX 3, iX 4, iX 5, jChain false 0, jChain false 1, jChain true 0, jChain true 1, jX 0, jX 1, jX 2, jX 3, jX 4, jX 5] (by decide) (by decide) Φ
theorem bigSep_kind (Φ : Fin 21 → sProp 𝕄) : bigSep Finset.univ Φ = iprop(Φ 0 ∗ Φ (kSend false 0) ∗ Φ (kSend false 1) ∗ Φ (kSend true 0) ∗ Φ (kSend true 1) ∗ Φ (kRecv false 0) ∗ Φ (kRecv false 1) ∗ Φ (kRecv true 0) ∗ Φ (kRecv true 1) ∗ Φ (kXs 0) ∗ Φ (kXs 1) ∗ Φ (kXs 2) ∗ Φ (kXs 3) ∗ Φ (kXs 4) ∗ Φ (kXs 5) ∗ Φ (kXr 0) ∗ Φ (kXr 1) ∗ Φ (kXr 2) ∗ Φ (kXr 3) ∗ Φ (kXr 4) ∗ Φ (kXr 5)) :=
  bigSep_univ_eq_bigSepL [0, kSend false 0, kSend false 1, kSend true 0, kSend true 1, kRecv false 0, kRecv false 1, kRecv true 0, kRecv true 1, kXs 0, kXs 1, kXs 2, kXs 3, kXs 4, kXs 5, kXr 0, kXr 1, kXr 2, kXr 3, kXr 4, kXr 5] (by decide) (by decide) Φ
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The devices whose lane's sum goes into the eight regions of device `c`'s result, -/
def src8 (c : Dev nD) : Fin 8 → Dev nD := ![c, c, rd 0 c, rd 1 c, rd 2 c, rd 3 c, rd 4 c, rd 5 c]
/-- and the column halves. -/
def hf8 : Fin 8 → Fin 2 := ![0, 1, 0, 1, 0, 0, 1, 1]

/-- The result's regions at any contents, -/
def outAny (c : Dev nD) : sProp 𝕄 := bigSep Finset.univ fun t : Fin 8 => anyAt c (oR (ln (src8 c t)) (hf8 t))
/-- and with the sums. -/
def outSum (c : Dev nD) : sProp 𝕄 :=
  bigSep Finset.univ fun t : Fin 8 => owns (c : Thread nD τ) (oR (ln (src8 c t)) (hf8 t)) fullShare (tot m ρ (src8 c t) (hf8 t))

theorem outAny_list (c : Dev nD) : (outAny c : sProp 𝕄)
    = iprop(anyAt c (oR (ln c) 0) ∗ anyAt c (oR (ln c) 1) ∗ land 0 c ∗ land 1 c ∗ land 2 c ∗ land 3 c ∗ land 4 c ∗ land 5 c) :=
  bigSep_eight _
theorem outSum_list (c : Dev nD) : outSum m ρ c
    = iprop(owns (c : Thread nD τ) (oR (ln c) 0) fullShare (tot m ρ c 0) ∗ owns (c : Thread nD τ) (oR (ln c) 1) fullShare (tot m ρ c 1)
      ∗ xrPay m ρ 0 c ∗ xrPay m ρ 1 c ∗ xrPay m ρ 2 c ∗ xrPay m ρ 3 c ∗ xrPay m ρ 4 c ∗ xrPay m ρ 5 c) :=
  bigSep_eight _

/-- Both halves of the running sums' buffers at any contents. -/
def outC (b : Bool) (c : Dev nD) : sProp 𝕄 := iprop(anyAt c (outH b 0) ∗ anyAt c (outH b 1))

/-- The credits a device starts with. -/
def crds (c : Dev nD) : sProp 𝕄 :=
  iprop((bcr c 2 ∗ opt (hasN false c) (bcr c 1) ∗ opt (hasP false c) (bcr c 1))
    ∗ (opt (hasP false c) (crd c (kRecv false 0)) ∗ opt (hasP false c) (crd c (kRecv false 1)))
    ∗ (opt (hasP true c) (crd c (kRecv true 0)) ∗ opt (hasP true c) (crd c (kRecv true 1)))
    ∗ crd c (kXr 0) ∗ crd c (kXr 1) ∗ crd c (kXr 2) ∗ crd c (kXr 3) ∗ crd c (kXr 4) ∗ crd c (kXr 5))

/-! ## Between the groups -/

theorem recvPre_intro (b : Bool) (c : Dev nD) :
    iprop((opt (hasP b c) (crd c (kRecv b 0)) ∗ opt (hasP b c) (crd c (kRecv b 1))) ∗ pos c (kRecv b 0) ∗ pos c (kRecv b 1) ∗ landC b c)
      ⊢ iprop(opt (hasP b c) (landC b c) ∗ recvPre m ρ b 0 c ∗ recvPre m ρ b 1 c) := by
  unfold recvPre opt
  by_cases h : hasP b c
  · simp only [if_pos h]
    iintro ⟨⟨C0, C1⟩, P0, P1, HL⟩
    isplitl [HL]; · iexact HL
    isplitl [C0 P0]
    · isplitl [C0]; · iexact C0
      iexact P0
    isplitl [C1]; · iexact C1
    iexact P1
  · simp only [if_neg h]
    unfold landC
    iintro ⟨-, P0, P1, L0, L1⟩
    isplitr; · iempintro
    isplitl [L0 P0]
    · isplitl [L0]; · iexact L0
      iapply (fin_unused m ρ c (kRecv b 0) (kRecv_ne b 0) (by rw [kAct_recv]; exact fun hh => h (of_decide_eq_true hh))); iexact P0
    isplitl [L1]; · iexact L1
    iapply (fin_unused m ρ c (kRecv b 1) (kRecv_ne b 1) (by rw [kAct_recv]; exact fun hh => h (of_decide_eq_true hh))); iexact P1

theorem sendPre_intro (b : Bool) (c : Dev nD) :
    iprop(opt (hasN b c) (landC b (nx b c)) ∗ pos c (kSend b 0) ∗ pos c (kSend b 1)
        ∗ tok c (iChain b 0) ∗ tok c (iChain b 1) ∗ tok c (jChain b 0) ∗ tok c (jChain b 1))
      ⊢ iprop(sendPre m ρ b 0 c ∗ sendPre m ρ b 1 c) := by
  unfold sendPre opt
  by_cases h : hasN b c
  · simp only [if_pos h]
    unfold landC
    iintro ⟨⟨L0, L1⟩, P0, P1, I0, I1, J0, J1⟩
    isplitl [L0 P0 I0 J0]
    · isplitl [I0]; · iexact I0
      isplitl [J0]; · iexact J0
      isplitl [P0]; · iexact P0
      iexact L0
    isplitl [I1]; · iexact I1
    isplitl [J1]; · iexact J1
    isplitl [P1]; · iexact P1
    iexact L1
  · simp only [if_neg h]
    iintro ⟨-, P0, P1, -⟩
    isplitl [P0]
    · iapply (fin_unused m ρ c (kSend b 0) (kSend_ne b 0) (by rw [kAct_send]; exact fun hh => h (of_decide_eq_true hh))); iexact P0
    iapply (fin_unused m ρ c (kSend b 1) (kSend_ne b 1) (by rw [kAct_send]; exact fun hh => h (of_decide_eq_true hh))); iexact P1

/-- Once its departure is over, a running sum's buffer is whole again. -/
theorem out_whole (b : Bool) (s : Fin 2) (c : Dev nD) :
    iprop(owns (c : Thread nD τ) (outH b s) fullShare.left (chain m ρ b c s) ∗ owns (c : Thread nD τ) (outH b s) fullShare.right (chain m ρ b c s))
      ⊢ anyAt c (outH b s) :=
  (owns_halves (c : Thread nD τ) (outH b s) fullShare (chain m ρ b c s)).2.trans (any_of_owns c (outH b s) _)

/-- The result's own regions are whole again once both their copies have left. -/
theorem own_whole (i i' : Fin 6) (s : Fin 2) (c : Dev nD) (hi : sd i c = c) (hi' : sd i' c = c) (hs : hf i = s) (hs' : hf i' = s)
    (hq : xShare i = fullShare.left) (hq' : xShare i' = fullShare.right) :
    iprop(xsPay m ρ i c ∗ xsPay m ρ i' c) ⊢ owns (c : Thread nD τ) (oR (ln c) s) fullShare (tot m ρ c s) := by
  unfold xsPay; rw [hi, hi', hs, hs', hq, hq']
  exact (owns_halves (c : Thread nD τ) (oR (ln c) s) fullShare (tot m ρ c s)).2

/-! ## The whole body -/

theorem pure_at (c : Dev nD) : Q ⟨⟩ ⊢ WP c (pure ⟨⟩) Q := by
  rw [Prog.pure_eq_ret]
  show Q ⟨⟩ ⊢ wp _ _ _ _ _
  rw [wp_ret]
  exact fupd_intro

theorem bodyP_at (c : Dev nD) :
    iprop(records m ρ K ∗ ow c ∅ ∗ bigSep Finset.univ (fun i => tok c i) ∗ bigSep Finset.univ (fun k => pos c k) ∗ crds c
        ∗ xO m ρ c ∗ (landC false c ∗ outC false c ∗ landC true c ∗ outC true c) ∗ outAny c)
      ⊢ iprop((iprop(ow c A6 ∗ bigSep Finset.univ (fun k => fin m ρ c k)
            ∗ xO m ρ c ∗ (landC false c ∗ outC false c ∗ landC true c ∗ outC true c) ∗ outSum m ρ c) -∗ Q ⟨⟩)
          -∗ WP c (bodyP c) Q) := by
  unfold crds outC bodyP
  rw [bigSep_due, bigSep_kind, bigSep_kind, outAny_list, outSum_list, (relay_pay m ρ c).1, (relay_pay m ρ c).2]
  iintro ⟨#HR, HO, ⟨T0, T1, T2, T3, TIf0, TIf1, TIt0, TIt1, TX0, TX1, TX2, TX3, TX4, TX5, TJf0, TJf1, TJt0, TJt1, TY0, TY1, TY2, TY3, TY4, TY5⟩, ⟨P0, PSf0, PSf1, PSt0, PSt1, PRf0, PRf1, PRt0, PRt1, PXs0, PXs1, PXs2, PXs3, PXs4, PXs5, PXr0, PXr1, PXr2, PXr3, PXr4, PXr5⟩, ⟨⟨CB2, CB1, CB1'⟩, CRf, CRt, CX0, CX1, CX2, CX3, CX4, CX5⟩, Hx, ⟨Lf, ⟨Of0, Of1⟩, Lt, ⟨Ot0, Ot1⟩⟩, ⟨G0, G1, G2, G3, G4, G5, G6, G7⟩⟩ Hk
  ihave Hf := (recvPre_intro m ρ false c) $$ [CRf PRf0 PRf1 Lf]
  · isplitl [CRf]; · iexact CRf
    isplitl [PRf0]; · iexact PRf0
    isplitl [PRf1]; · iexact PRf1
    iexact Lf
  icases Hf with ⟨Lf, Rf0, Rf1⟩
  ihave Ht := (recvPre_intro m ρ true c) $$ [CRt PRt0 PRt1 Lt]
  · isplitl [CRt]; · iexact CRt
    isplitl [PRt0]; · iexact PRt0
    isplitl [PRt1]; · iexact PRt1
    iexact Lt
  icases Ht with ⟨Lt, Rt0, Rt1⟩
  -- the barrier
  iapply (barP_at m ρ K c) $$ [HO T0 T1 T2 T3 G2 G6 G7 G3 G4 G5 Lf Lt P0 CB2 CB1 CB1']
  · isplitr; · iexact HR
    isplitl [HO]; · iexact HO
    isplitl [T0 T1 T2 T3]
    · isplitl [T0]; · iexact T0
      isplitl [T1]; · iexact T1
      isplitl [T2]; · iexact T2
      iexact T3
    isplitl [G2 G6 G7]
    · isplitl [G2]; · iexact G2
      isplitl [G6]; · iexact G6
      iexact G7
    isplitl [G3 G4 G5]
    · isplitl [G3]; · iexact G3
      isplitl [G4]; · iexact G4
      iexact G5
    isplitl [Lf]; · iexact Lf
    isplitl [Lt]; · iexact Lt
    isplitl [P0]; · iexact P0
    isplitl [CB2]; · iexact CB2
    isplitl [CB1]; · iexact CB1
    iexact CB1'
  iintro ⟨HO, F0, ⟨N0, N4, N5⟩, ⟨N1, N2, N3⟩, Nf, Nt⟩
  ihave Hf := (sendPre_intro m ρ false c) $$ [Nf PSf0 PSf1 TIf0 TIf1 TJf0 TJf1]
  · isplitl [Nf]; · iexact Nf
    isplitl [PSf0]; · iexact PSf0
    isplitl [PSf1]; · iexact PSf1
    isplitl [TIf0]; · iexact TIf0
    isplitl [TIf1]; · iexact TIf1
    isplitl [TJf0]; · iexact TJf0
    iexact TJf1
  icases Hf with ⟨Sf0, Sf1⟩
  ihave Ht := (sendPre_intro m ρ true c) $$ [Nt PSt0 PSt1 TIt0 TIt1 TJt0 TJt1]
  · isplitl [Nt]; · iexact Nt
    isplitl [PSt0]; · iexact PSt0
    isplitl [PSt1]; · iexact PSt1
    isplitl [TIt0]; · iexact TIt0
    isplitl [TIt1]; · iexact TIt1
    isplitl [TJt0]; · iexact TJt0
    iexact TJt1
  icases Ht with ⟨St0, St1⟩
  -- column half 0 along the lane, and its copies to the other lanes
  iapply (seg0P_at m ρ K c) $$ [HO Hx Of0 Rf0 Sf0 Ot0 Rt0 St0 G0]
  · isplitr; · iexact HR
    isplitl [Hx]; · iexact Hx
    isplitl [HO]; · iexact HO
    unfold dirPre
    isplitl [Of0 Rf0 Sf0]
    · isplitl [Of0]; · iexact Of0
      isplitl [Rf0]; · iexact Rf0
      iexact Sf0
    isplitl [Ot0 Rt0 St0]
    · isplitl [Ot0]; · iexact Ot0
      isplitl [Rt0]; · iexact Rt0
      iexact St0
    iexact G0
  unfold dirDone
  iintro ⟨Hx, HO, ⟨FRf0, Lf0, Mf0, Of0⟩, ⟨FRt0, Lt0, Mt0, Ot0⟩, G0⟩
  iapply (send0P_at m ρ K c) $$ [HO TX0 TY0 N0 TX2 TY2 N2 G0]
  · isplitr; · iexact HR
    isplitl [HO]; · iexact HO
    unfold xPre
    isplitl [TX0 TY0 N0]
    · isplitl [TX0]; · iexact TX0
      isplitl [TY0]; · iexact TY0
      iexact N0
    isplitl [TX2 TY2 N2]
    · isplitl [TX2]; · iexact TX2
      isplitl [TY2]; · iexact TY2
      iexact N2
    iexact G0
  iintro ⟨CY0, CY2, HO⟩
  -- column half 1 along the lane, and its copies to the other lanes
  iapply (seg1P_at m ρ K c) $$ [HO Hx Of1 Rf1 Sf1 Ot1 Rt1 St1 G1]
  · isplitr; · iexact HR
    isplitl [Hx]; · iexact Hx
    isplitl [HO]; · iexact HO
    unfold dirPre
    isplitl [Of1 Rf1 Sf1]
    · isplitl [Of1]; · iexact Of1
      isplitl [Rf1]; · iexact Rf1
      iexact Sf1
    isplitl [Ot1 Rt1 St1]
    · isplitl [Ot1]; · iexact Ot1
      isplitl [Rt1]; · iexact Rt1
      iexact St1
    iexact G1
  unfold dirDone
  iintro ⟨Hx, HO, ⟨FRf1, Lf1, Mf1, Of1⟩, ⟨FRt1, Lt1, Mt1, Ot1⟩, G1⟩
  iapply (send1P_at m ρ K c) $$ [HO TX1 TY1 N1 TX4 TY4 N4 G1]
  · isplitr; · iexact HR
    isplitl [HO]; · iexact HO
    unfold xPre
    isplitl [TX1 TY1 N1]
    · isplitl [TX1]; · iexact TX1
      isplitl [TY1]; · iexact TY1
      iexact N1
    isplitl [TX4 TY4 N4]
    · isplitl [TX4]; · iexact TX4
      isplitl [TY4]; · iexact TY4
      iexact N4
    iexact G1
  iintro ⟨CY1, CY4, HO⟩
  -- the relayed copies, and all waits between lanes
  iapply (relayP_at m ρ K c) $$ [HO CX0 PXr0 TX3 TY3 N3 CX1 PXr1 TX5 TY5 N5]
  · isplitr; · iexact HR
    isplitl [HO]; · iexact HO
    unfold xPre wPre
    isplitl [CX0 PXr0]
    · isplitl [CX0]; · iexact CX0
      iexact PXr0
    isplitl [TX3 TY3 N3]
    · isplitl [TX3]; · iexact TX3
      isplitl [TY3]; · iexact TY3
      iexact N3
    isplitl [CX1 PXr1]
    · isplitl [CX1]; · iexact CX1
      iexact PXr1
    isplitl [TX5]; · iexact TX5
    isplitl [TY5]; · iexact TY5
    iexact N5
  iintro ⟨FXr0, CY3, FXr1, CY5, HO⟩
  iapply (closeP_at m ρ K c) $$ [HO CX2 PXr2 CX4 PXr4 CX3 PXr3 CX5 PXr5 CY0 PXs0 CY1 PXs1 CY2 PXs2 CY3 PXs3 CY4 PXs4 CY5 PXs5]
  · isplitr; · iexact HR
    isplitl [HO]; · iexact HO
    unfold wPre
    isplitl [CX2 PXr2]
    · isplitl [CX2]; · iexact CX2
      iexact PXr2
    isplitl [CX4 PXr4]
    · isplitl [CX4]; · iexact CX4
      iexact PXr4
    isplitl [CX3 PXr3]
    · isplitl [CX3]; · iexact CX3
      iexact PXr3
    isplitl [CX5 PXr5]
    · isplitl [CX5]; · iexact CX5
      iexact PXr5
    isplitl [CY0 PXs0]
    · isplitl [CY0]; · iexact CY0
      iexact PXs0
    isplitl [CY1 PXs1]
    · isplitl [CY1]; · iexact CY1
      iexact PXs1
    isplitl [CY2 PXs2]
    · isplitl [CY2]; · iexact CY2
      iexact PXs2
    isplitl [CY3 PXs3]
    · isplitl [CY3]; · iexact CY3
      iexact PXs3
    isplitl [CY4 PXs4]
    · isplitl [CY4]; · iexact CY4
      iexact PXs4
    isplitl [CY5]; · iexact CY5
    iexact PXs5
  unfold xrDone xsDone
  iintro ⟨HO, ⟨FXr2, Dr2⟩, ⟨FXr4, Dr4⟩, ⟨FXr3, Dr3⟩, ⟨FXr5, Dr5⟩, ⟨FXs0, Ds0⟩, ⟨FXs1, Ds1⟩, ⟨FXs2, Ds2⟩, ⟨FXs3, Ds3⟩, ⟨FXs4, Ds4⟩, ⟨FXs5, Ds5⟩⟩
  -- the departures along the lane
  unfold drainsP
  iapply (drainP_at m ρ K false c (gLt_iff c)) $$ [HO Mf0 Mf1]
  · isplitr; · iexact HR
    isplitl [HO]; · iexact HO
    isplitl [Mf0]; · iexact Mf0
    iexact Mf1
  iintro ⟨HO, ⟨Ef0, FSf0⟩, ⟨Ef1, FSf1⟩⟩
  iapply (drainP_at m ρ K true c ((gGt_iff c).trans (hasP_not true c))) $$ [HO Mt0 Mt1]
  · isplitr; · iexact HR
    isplitl [HO]; · iexact HO
    isplitl [Mt0]; · iexact Mt0
    iexact Mt1
  iintro ⟨HO, ⟨Et0, FSt0⟩, ⟨Et1, FSt1⟩⟩
  iapply (pure_at c)
  iapply Hk
  isplitl [HO]; · iexact HO
  isplitl [F0 FSf0 FSf1 FSt0 FSt1 FRf0 FRf1 FRt0 FRt1 FXs0 FXs1 FXs2 FXs3 FXs4 FXs5 FXr0 FXr1 FXr2 FXr3 FXr4 FXr5]
  · isplitl [F0]; · iexact F0
    isplitl [FSf0]; · iexact FSf0
    isplitl [FSf1]; · iexact FSf1
    isplitl [FSt0]; · iexact FSt0
    isplitl [FSt1]; · iexact FSt1
    isplitl [FRf0]; · iexact FRf0
    isplitl [FRf1]; · iexact FRf1
    isplitl [FRt0]; · iexact FRt0
    isplitl [FRt1]; · iexact FRt1
    isplitl [FXs0]; · iexact FXs0
    isplitl [FXs1]; · iexact FXs1
    isplitl [FXs2]; · iexact FXs2
    isplitl [FXs3]; · iexact FXs3
    isplitl [FXs4]; · iexact FXs4
    isplitl [FXs5]; · iexact FXs5
    isplitl [FXr0]; · iexact FXr0
    isplitl [FXr1]; · iexact FXr1
    isplitl [FXr2]; · iexact FXr2
    isplitl [FXr3]; · iexact FXr3
    isplitl [FXr4]; · iexact FXr4
    iexact FXr5
  isplitl [Hx]; · iexact Hx
  isplitl [Lf0 Ef0 Of0 Lf1 Ef1 Of1 Lt0 Et0 Ot0 Lt1 Et1 Ot1]
  · unfold landC
    isplitl [Lf0 Lf1]
    · isplitl [Lf0]; · iexact Lf0
      iexact Lf1
    isplitl [Ef0 Of0 Ef1 Of1]
    · isplitl [Ef0 Of0]
      · iapply (out_whole m ρ false 0 c)
        isplitl [Ef0]; · iexact Ef0
        iexact Of0
      iapply (out_whole m ρ false 1 c)
      isplitl [Ef1]; · iexact Ef1
      iexact Of1
    isplitl [Lt0 Lt1]
    · isplitl [Lt0]; · iexact Lt0
      iexact Lt1
    isplitl [Et0 Ot0]
    · iapply (out_whole m ρ true 0 c)
      isplitl [Et0]; · iexact Et0
      iexact Ot0
    iapply (out_whole m ρ true 1 c)
    isplitl [Et1]; · iexact Et1
    iexact Ot1
  isplitl [Ds0 Ds2]
  · iapply (own_whole m ρ 0 2 0 c rfl rfl rfl rfl rfl rfl)
    isplitl [Ds0]; · iexact Ds0
    iexact Ds2
  isplitl [Ds1 Ds4]
  · iapply (own_whole m ρ 1 4 1 c rfl rfl rfl rfl rfl rfl)
    isplitl [Ds1]; · iexact Ds1
    iexact Ds4
  isplitl [Ds3]; · iexact Ds3
  isplitl [Ds5]; · iexact Ds5
  isplitl [Dr2]; · iexact Dr2
  isplitl [Dr3]; · iexact Dr3
  isplitl [Dr4]; · iexact Dr4
  iexact Dr5

end Cert.LaneSum

end
-- ==== Proof.Credits.lean ====
/-
The credits a device starts with: for every semaphore as much as the other devices owe it, named as the waits of the body
take them.
-/
module

public import proofs.«01_k».proof.Proof.Body

@[expose] public section

set_option maxRecDepth 100000

noncomputable section

namespace Cert.LaneSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 21 → ℕ)

/-! ## How often a semaphore is raised by other devices -/

/-- The number of dues to other devices that raise semaphore `k` of device `c`. -/
def cnt (c : Dev nD) (k : Fin 21) : ℕ :=
  ∑ d : Dev nD, ((left d ∅).filter fun i => dDev i d = c ∧ dKind i = k).card

theorem cnt_bar : ∀ c : Dev nD, cnt c 0 = (2 + if hasN false c then 1 else 0) + if hasP false c then 1 else 0 := by decide +kernel
theorem cnt_recv : ∀ (b : Bool) (s : Fin 2) (c : Dev nD), cnt c (kRecv b s) = if hasP b c then 1 else 0 := by decide +kernel
theorem cnt_xr : ∀ (i : Fin 6) (c : Dev nD), cnt c (kXr i) = 1 := by decide +kernel

theorem dTally_at (d c : Dev nD) (i : Due) (k : Fin 21) :
    dTally d i (kcell (c, k)) () = if dDev i d = c ∧ dKind i = k then kAmt k else 0 := by
  unfold dTally
  rw [tallyAt_apply]
  by_cases h : dDev i d = c ∧ dKind i = k
  · rw [if_pos h, if_pos ⟨by rw [h.1, h.2], rfl⟩, h.2]
  · rw [if_neg h, if_neg fun h' => h ?_]
    have e := kcell_injective h'.1
    exact ⟨(congrArg Prod.fst e).symm, (congrArg Prod.snd e).symm⟩

theorem owe_at (d c : Dev nD) (k : Fin 21) :
    owe d ∅ (kcell (c, k)) () = ((left d ∅).filter fun i => dDev i d = c ∧ dKind i = k).card * kAmt k := by
  unfold owe
  rw [Finset.sum_apply, Finsupp.finset_sum_apply, Finset.sum_congr rfl fun i _ => dTally_at d c i k, ← Finset.sum_filter,
    Finset.sum_const, smul_eq_mul]

/-- What the devices owe at the start, -/
abbrev O₀ (c : Dev nD) : CellTallies nD τ sig Unit := owe c ∅

/-- and so the credit each semaphore starts with. -/
theorem launch_at (c : Dev nD) (k : Fin 21) :
    tallyOn (kcell (c, k)) (launchCredit (Pipeline.owing O₀) 0 (kcell (c, k)))
      = (tallyAt (kcell (c, k)) () (cnt c k * kAmt k) : CellTallies nD τ sig Unit) := by
  unfold tallyAt; refine congrArg _ (Finsupp.ext fun u => ?_); cases u
  rw [Pipeline.launchCredit_owing, Finsupp.single_eq_same, Finset.sum_congr rfl fun d _ => owe_at d c k, ← Finset.sum_mul]
  rfl

theorem launch_kinds (c : Dev nD) :
    (Pipeline.launchCred O₀ c : sProp 𝕄) ⊢ bigSep Finset.univ fun k : Fin 21 => cred (tallyAt (kcell (c, k)) () (cnt c k * kAmt k)) := by
  unfold Pipeline.launchCred
  refine (BI.bigSep_subset (Finset.subset_univ (Finset.univ.map ⟨csem, csem_injective⟩))).trans ?_
  rw [BI.bigSep_map]
  exact bigSep_mono fun k _ => Entails.of_eq (congrArg cred (launch_at c k))

/-! ## The credits by name -/

theorem crd_of (c : Dev nD) (k : Fin 21) (hk : k ≠ 0) (h : cnt c k = 1) :
    (cred (tallyAt (kcell (c, k)) () (cnt c k * kAmt k)) : sProp 𝕄) ⊢ crd c k := by
  rw [h, kAmt_N k hk, Nat.one_mul]
  exact BI.Entails.refl _
theorem opt_crd (c : Dev nD) (p : Prop) [Decidable p] (k : Fin 21) (hk : k ≠ 0) (h : cnt c k = if p then 1 else 0) :
    (cred (tallyAt (kcell (c, k)) () (cnt c k * kAmt k)) : sProp 𝕄) ⊢ opt p (crd c k) := by
  by_cases hp : p
  · rw [opt, if_pos hp]; exact crd_of c k hk (h.trans (if_pos hp))
  · rw [opt, if_neg hp]; iintro -; iempintro
theorem bcr_add (c : Dev nD) (a b : ℕ) : (bcr c (a + b) : sProp 𝕄) ⊢ iprop(bcr c a ∗ bcr c b) := by
  unfold bcr
  rw [← tallyAt_add]
  exact (cred_add _ _).1
theorem bcr_opt (c : Dev nD) (p : Prop) [Decidable p] : (bcr c (if p then 1 else 0) : sProp 𝕄) ⊢ opt p (bcr c 1) := by
  by_cases hp : p
  · rw [opt, if_pos hp, if_pos hp]
  · rw [opt, if_neg hp, if_neg hp]; iintro -; iempintro
theorem bcr_of (c : Dev nD) : (cred (tallyAt (kcell (c, 0)) () (cnt c 0 * kAmt 0)) : sProp 𝕄)
    ⊢ iprop(bcr c 2 ∗ opt (hasN false c) (bcr c 1) ∗ opt (hasP false c) (bcr c 1)) := by
  have e : cnt c 0 * kAmt 0 = (2 + if hasN false c then 1 else 0) + if hasP false c then 1 else 0 := by
    rw [show kAmt 0 = 1 from rfl, Nat.mul_one, cnt_bar]
  rw [e]
  show (bcr c ((2 + if hasN false c then 1 else 0) + if hasP false c then 1 else 0) : sProp 𝕄) ⊢ _
  iintro H
  ihave H := (bcr_add c _ _) $$ H
  icases H with ⟨H, Hp⟩
  ihave H := (bcr_add c _ _) $$ H
  icases H with ⟨H2, Hn⟩
  isplitl [H2]; · iexact H2
  isplitl [Hn]
  · iapply (bcr_opt c (hasN false c)); iexact Hn
  iapply (bcr_opt c (hasP false c)); iexact Hp

/-- The credits a device starts with are those its waits take. -/
theorem creds (c : Dev nD) : (Pipeline.launchCred O₀ c : sProp 𝕄) ⊢ crds c := by
  refine (launch_kinds c).trans ?_
  rw [bigSep_kind]
  unfold crds
  iintro ⟨H0, -, -, -, -, F0, F1, T0, T1, -, -, -, -, -, -, X0, X1, X2, X3, X4, X5⟩
  isplitl [H0]
  · iapply (bcr_of c); iexact H0
  isplitl [F0 F1]
  · isplitl [F0]
    · iapply (opt_crd c (hasP false c) (kRecv false 0) (kRecv_ne _ _) (cnt_recv _ _ c)); iexact F0
    iapply (opt_crd c (hasP false c) (kRecv false 1) (kRecv_ne _ _) (cnt_recv _ _ c)); iexact F1
  isplitl [T0 T1]
  · isplitl [T0]
    · iapply (opt_crd c (hasP true c) (kRecv true 0) (kRecv_ne _ _) (cnt_recv _ _ c)); iexact T0
    iapply (opt_crd c (hasP true c) (kRecv true 1) (kRecv_ne _ _) (cnt_recv _ _ c)); iexact T1
  isplitl [X0]
  · iapply (crd_of c (kXr 0) (kXr_ne 0) (cnt_xr 0 c)); iexact X0
  isplitl [X1]
  · iapply (crd_of c (kXr 1) (kXr_ne 1) (cnt_xr 1 c)); iexact X1
  isplitl [X2]
  · iapply (crd_of c (kXr 2) (kXr_ne 2) (cnt_xr 2 c)); iexact X2
  isplitl [X3]
  · iapply (crd_of c (kXr 3) (kXr_ne 3) (cnt_xr 3 c)); iexact X3
  isplitl [X4]
  · iapply (crd_of c (kXr 4) (kXr_ne 4) (cnt_xr 4 c)); iexact X4
  iapply (crd_of c (kXr 5) (kXr_ne 5) (cnt_xr 5 c)); iexact X5

end Cert.LaneSum

end
-- ==== Proof.Split.lean ====
/-
Whole buffers and their regions: the four buffers of the lane split into column halves, the staged result into its eight
regions, and both put back together.
-/
module

public import proofs.«01_k».proof.Proof.Body

@[expose] public section

set_option maxRecDepth 100000

noncomputable section

namespace Cert.LaneSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 21 → ℕ)

/-! ## The halves of a row block's buffer -/

theorem half_ne (s t : Fin 2) (h : s ≠ t) : 256 * s.val + 256 ≤ 256 * t.val ∨ 256 * t.val + 256 ≤ 256 * s.val := by
  revert s t; decide

theorem hRect_disj (s t : Fin 2) (h : s ≠ t) : Disjoint (hRect s).set (hRect t).set :=
  Rect.unit_disjoint 1 (half_ne s t h)

theorem hRect_cov : (Finset.univ : Finset (Fin 2)).biUnion (fun t => (hRect t).set) = Finset.univ := by
  refine Finset.eq_univ_iff_forall.mpr fun x => Finset.mem_biUnion.mpr ?_
  have h0 : (x 0).val < 512 := (x 0).isLt
  have h1 : (x 1).val < 512 := (x 1).isLt
  refine ⟨⟨(x 1).val / 256, by omega⟩, Finset.mem_univ _, Rect.mem_set_unit.mpr fun a => ?_⟩
  fin_cases a
  · exact ⟨Nat.zero_le _, by simpa using h0⟩
  · show 256 * ((x 1).val / 256) ≤ (x 1).val ∧ (x 1).val < 256 * ((x 1).val / 256) + 256
    omega

omit [FloatOps F] in
theorem bigSep_two (Φ : Fin 2 → sProp 𝕄) : bigSep Finset.univ Φ = iprop(Φ 0 ∗ Φ 1) :=
  bigSep_univ_eq_bigSepL [0, 1] (by decide) (by decide) Φ

/-- A buffer at any contents is its two halves at any contents, -/
theorem halves_of (c : Dev nD) (M : Memref sig .tc .vmem S512x512 .f32) :
    (ownsSat (c : Thread nD τ) M fullShare (fun _ => True) : sProp 𝕄)
      ⊢ iprop(anyAt c (M.slice (hRect 0) (fun _ => rfl)) ∗ anyAt c (M.slice (hRect 1) (fun _ => rfl))) :=
  (ownsSat_mono _ _ _ fun _ _ _ => trivial).trans
    ((ownsSat_rects (c : Thread nD τ) M fullShare hRect (fun _ _ => rfl) hRect_disj hRect_cov (fun _ _ => True)).trans
      (Entails.of_eq (bigSep_two _)))
/-- and back. -/
theorem of_halves (c : Dev nD) (M : Memref sig .tc .vmem S512x512 .f32) :
    iprop(anyAt c (M.slice (hRect 0) (fun _ => rfl)) ∗ anyAt c (M.slice (hRect 1) (fun _ => rfl)))
      ⊢ (ownsSat (c : Thread nD τ) M fullShare (fun _ => True) : sProp 𝕄) :=
  (Entails.of_eq (bigSep_two _).symm).trans
    ((ownsSat_of_rects (c : Thread nD τ) M fullShare hRect (fun _ _ => rfl) hRect_disj hRect_cov (fun _ _ => True)).trans
      (ownsSat_mono _ _ _ fun _ _ => trivial))

/-- A whole buffer at some contents, -/
theorem any_whole (c : Dev nD) (b : Ref sig .tc) :
    (ownsSat (c : Thread nD τ) (Memref.whole b) fullShare (fun _ => True) : sProp 𝕄)
      ⊢ iprop(∃ f : Buf (Elt F) ((c : Thread nD τ).loc b), ((c : Thread nD τ).loc b) ↦{fullShare} f) := by
  unfold ownsSat
  simp only [Memref.view_whole, View.read_whole, View.set_whole]
  iintro ⟨%f, -, H⟩
  iexists f; iexact H
theorem whole_of_any (c : Dev nD) (b : Ref sig .tc) :
    iprop(∃ f : Buf (Elt F) ((c : Thread nD τ).loc b), ((c : Thread nD τ).loc b) ↦{fullShare} f)
      ⊢ (ownsSat (c : Thread nD τ) (Memref.whole b) fullShare (fun _ => True) : sProp 𝕄) := by
  unfold ownsSat
  simp only [Memref.view_whole, View.read_whole, View.set_whole]
  iintro ⟨%f, H⟩
  iexists f
  isplitr; · ipureintro; trivial
  iexact H
/-- both ways. -/
theorem whole_any (c : Dev nD) (b : Ref sig .tc) :
    (ownsSat (c : Thread nD τ) (Memref.whole b) fullShare (fun _ => True) : sProp 𝕄)
      = iprop(∃ f : Buf (Elt F) ((c : Thread nD τ).loc b), ((c : Thread nD τ).loc b) ↦{fullShare} f) :=
  BI.equiv_iff.mp ⟨any_whole c b, whole_of_any c b⟩

/-- The four buffers of a device, whole or in halves. -/
theorem scratch_split (c : Dev nD) :
    (Pipeline.scopedRest (Ix := Unit) (Name := ℕ) (U := UU) (Lvl := ℕ) (Val := Elt F) spec0 c : sProp 𝕄)
      ⊢ iprop(landC false c ∗ outC false c ∗ landC true c ∗ outC true c) := by
  rw [scopedRest0_eq, ← whole_any, ← whole_any, ← whole_any, ← whole_any]
  unfold landC outC
  exact BIClass.sep_mono (halves_of c (inM false)) (BIClass.sep_mono (halves_of c (outM false)) (BIClass.sep_mono (halves_of c (inM true)) (halves_of c (outM true))))
theorem scratch_join (c : Dev nD) :
    iprop(landC false c ∗ outC false c ∗ landC true c ∗ outC true c)
      ⊢ (Pipeline.scopedRest (Ix := Unit) (Name := ℕ) (U := UU) (Lvl := ℕ) (Val := Elt F) spec0 c : sProp 𝕄) := by
  rw [scopedRest0_eq, ← whole_any, ← whole_any, ← whole_any, ← whole_any]
  unfold landC outC
  exact BIClass.sep_mono (of_halves c (inM false)) (BIClass.sep_mono (of_halves c (outM false)) (BIClass.sep_mono (of_halves c (inM true)) (of_halves c (outM true))))

/-! ## The regions of the result -/

/-- Region `t` of the result on device `c`. -/
abbrev rect8 (c : Dev nD) (t : Fin 8) : Rect S2048x512 := gRect (ln (src8 c t)) (hf8 t)

theorem reg_ne (q q' : Fin 4) (h : q ≠ q') : 512 * q.val + 512 ≤ 512 * q'.val ∨ 512 * q'.val + 512 ≤ 512 * q.val := by
  revert q q'; decide

theorem src8_apart (c : Dev nD) (t t' : Fin 8) (h : t ≠ t') : ln (src8 c t) ≠ ln (src8 c t') ∨ hf8 t ≠ hf8 t' := by
  revert c t t'; decide +kernel
theorem src8_onto (c : Dev nD) (q : Fin 4) (s : Fin 2) : ∃ t : Fin 8, ln (src8 c t) = q ∧ hf8 t = s := by
  revert c q s; decide +kernel

theorem rect8_disj (c : Dev nD) (t t' : Fin 8) (h : t ≠ t') : Disjoint (rect8 c t).set (rect8 c t').set := by
  rcases src8_apart c t t' h with h | h
  · exact Rect.unit_disjoint 0 (reg_ne _ _ h)
  · exact Rect.unit_disjoint 1 (half_ne _ _ h)

theorem gRect_cov (x : S2048x512.Idx) : ∃ q s, x ∈ (gRect q s).set := by
  have h0 : (x 0).val < 2048 := (x 0).isLt
  have h1 : (x 1).val < 512 := (x 1).isLt
  refine ⟨⟨(x 0).val / 512, by omega⟩, ⟨(x 1).val / 256, by omega⟩, Rect.mem_set_unit.mpr fun a => ?_⟩
  fin_cases a
  · show 512 * ((x 0).val / 512) ≤ (x 0).val ∧ (x 0).val < 512 * ((x 0).val / 512) + 512
    omega
  · show 256 * ((x 1).val / 256) ≤ (x 1).val ∧ (x 1).val < 256 * ((x 1).val / 256) + 256
    omega

theorem rect8_cov (c : Dev nD) : (Finset.univ : Finset (Fin 8)).biUnion (fun t => (rect8 c t).set) = Finset.univ := by
  refine Finset.eq_univ_iff_forall.mpr fun x => Finset.mem_biUnion.mpr ?_
  obtain ⟨q, s, h⟩ := gRect_cov x
  obtain ⟨t, rfl, rfl⟩ := src8_onto c q s
  exact ⟨t, Finset.mem_univ _, h⟩

/-- The result on device `c`: on every region the sum of the lane the region belongs to. -/
def outV (c : Dev nD) : S2048x512.Idx → Elt F .f32 :=
  Rect.glue (rect8 c) (rect8_cov c) (fun t => tot m ρ (src8 c t) (hf8 t))

theorem outV_emb (c : Dev nD) (t : Fin 8) : (fun j => outV m ρ c ((rect8 c t).emb j)) = tot m ρ (src8 c t) (hf8 t) :=
  funext fun y => Rect.glue_emb (rect8 c) (rect8_cov c) (rect8_disj c) (fun t => tot m ρ (src8 c t) (hf8 t)) t y

/-- The staged result at any contents splits into its regions, -/
theorem out_split (c : Dev nD) (X : S2048x512.Idx → Elt F .f32) :
    (owns (c : Thread nD τ) oM fullShare X : sProp 𝕄) ⊢ outAny c :=
  (owns_rects (c : Thread nD τ) oM fullShare (rect8 c) (fun _ _ => rfl) (rect8_disj c) (rect8_cov c) X).trans
    (bigSep_mono fun t _ => ownsSat_intro (c : Thread nD τ) (oM.slice (rect8 c t) (fun _ => rfl)) fullShare trivial)

/-- and the regions holding the sums make the staged result. -/
theorem out_join (c : Dev nD) : outSum m ρ c ⊢ owns (c : Thread nD τ) oM fullShare (outV m ρ c) := by
  refine BIBase.Entails.trans ?_ (owns_of_rects (c : Thread nD τ) oM fullShare (rect8 c) (fun _ _ => rfl) (rect8_disj c) (rect8_cov c) (outV m ρ c))
  simp only [outV_emb]
  unfold outSum
  exact BI.Entails.refl _

end Cert.LaneSum

end
-- ==== Proof.Flat.lean ====
/-
The printed body is the regrouped one.
-/
module

public import proofs.«01_k».proof.Proof.Program

@[expose] public section

set_option maxRecDepth 100000

noncomputable section

namespace Cert.LaneSum

open Cert.KernelIdeal Cert.KernelIdeal.Gen
open Idealize.ShloMosaic
open Idealize.ShloMosaic.TcCoe
open Idealize.SL Idealize.SL.RA Idealize.SL.BI
open Idealize.SL.Sem

variable {F : FTy → Type} [FloatOps F]

/-! Each printed part is its statements and a last result, which no later statement looks at. -/

theorem part2_eq (c : Dev nD) (v2 v5 v10 v13 v16 : BitVec 32) :
    ∃ r, k0_part2 (F := F) (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9
      c v2 v5 (zW c) v10 v13 v16 (SemArray.scalar (sig.barrier 0 rfl)) (Scalar.cmpi .slt (zW c) 3#32) =
  (signalP (k0_cond1 c) (fun h => ⟨k0_dev3 c, k0_dev3_lt c h⟩) <|
  signalP (k0_cond2 c) (fun h => ⟨k0_dev4 c, k0_dev4_lt c h⟩) <|
  barWait2P <|
  barWaitP (gLt c) <|
  barWaitP (gGt c) <|
  pairP false 0 (k0_cond5 c) (k0_cond6 c) (k0_cond7 c) (k0_cond8 c) (k0_cond9 c) (k0_cond10 c) (k0_cond11 c)
    (fun _ _ => k0_off1 c) (fun h h' => k0_off1_inb c h h') (fun _ _ => k0_off2 c) (fun h h' => k0_off2_inb c h h')
    (fun h h' => ⟨k0_dev5 c, k0_dev5_lt c h h'⟩)
    (fun _ _ => k0_off3 c) (fun h h' => k0_off3_inb c h h') (fun _ _ => k0_off4 c) (fun h h' => k0_off4_inb c h h')
    (fun h h' => ⟨k0_dev6 c, k0_dev6_lt c h h'⟩) <|
  pairP true 0 (k0_cond12 c) (k0_cond13 c) (k0_cond14 c) (k0_cond15 c) (k0_cond16 c) (k0_cond17 c) (k0_cond18 c)
    (fun _ _ => k0_off5 c) (fun h h' => k0_off5_inb c h h') (fun _ _ => k0_off6 c) (fun h h' => k0_off6_inb c h h')
    (fun h h' => ⟨k0_dev7 c, k0_dev7_lt c h h'⟩)
    (fun _ _ => k0_off7 c) (fun h h' => k0_off7_inb c h h') (fun _ _ => k0_off8 c) (fun h h' => k0_off8_inb c h h')
    (fun h h' => ⟨k0_dev8 c, k0_dev8_lt c h h'⟩) <|
  meetP 0 (k0_cond19 c) (fun _ => k0_off9 c) (fun h => k0_off9_inb c h) <| pure r) := ⟨_, rfl⟩

theorem part3_eq (c : Dev nD) (v2 v5 v8 v17 v18 v44 v61 : BitVec 32) :
    ∃ r, k0_part3 (F := F) (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9
      c v2 v5 v8 v17 v18 v44 v61 =
  (lastP 0 (k0_cond20 c) (fun _ => k0_off10 c) (fun h => k0_off10_inb c h) <|
  xsendP 0 (k0_off11 c) (k0_off11_inb c) ⟨k0_dev9 c, k0_dev9_lt c⟩ <|
  xsendP 2 (k0_off11 c) (k0_off11_inb c) ⟨k0_dev10 c, k0_dev10_lt c⟩ <|
  pairP false 1 (k0_cond21 c) (k0_cond22 c) (k0_cond23 c) (k0_cond24 c) (k0_cond25 c) (k0_cond26 c) (k0_cond27 c)
    (fun _ _ => k0_off12 c) (fun h h' => k0_off12_inb c h h') (fun _ _ => k0_off13 c) (fun h h' => k0_off13_inb c h h')
    (fun h h' => ⟨k0_dev11 c, k0_dev11_lt c h h'⟩)
    (fun _ _ => k0_off14 c) (fun h h' => k0_off14_inb c h h') (fun _ _ => k0_off15 c) (fun h h' => k0_off15_inb c h h')
    (fun h h' => ⟨k0_dev12 c, k0_dev12_lt c h h'⟩) <|
  pairP true 1 (k0_cond28 c) (k0_cond29 c) (k0_cond30 c) (k0_cond31 c) (k0_cond32 c) (k0_cond33 c) (k0_cond34 c)
    (fun _ _ => k0_off16 c) (fun h h' => k0_off16_inb c h h') (fun _ _ => k0_off17 c) (fun h h' => k0_off17_inb c h h')
    (fun h h' => ⟨k0_dev13 c, k0_dev13_lt c h h'⟩)
    (fun _ _ => k0_off18 c) (fun h h' => k0_off18_inb c h h') (fun _ _ => k0_off19 c) (fun h h' => k0_off19_inb c h h')
    (fun h h' => ⟨k0_dev14 c, k0_dev14_lt c h h'⟩) <| pure r) := ⟨_, rfl⟩

theorem part4_eq (c : Dev nD) (v2 v5 v8 v17 v18 v44 v94 : BitVec 32) :
    ∃ r, k0_part4 (F := F) (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9
      c v2 v5 v8 v17 v18 v44 v94 =
  (meetP 1 (k0_cond35 c) (fun _ => k0_off20 c) (fun h => k0_off20_inb c h) <|
  lastP 1 (k0_cond36 c) (fun _ => k0_off21 c) (fun h => k0_off21_inb c h) <|
  xsendP 1 (k0_off22 c) (k0_off22_inb c) ⟨k0_dev15 c, k0_dev15_lt c⟩ <|
  xsendP 4 (k0_off22 c) (k0_off22_inb c) ⟨k0_dev16 c, k0_dev16_lt c⟩ <| pure r) := ⟨_, rfl⟩

theorem part5_eq (c : Dev nD) (v2 v5 v8 v17 v18 v126 : BitVec 32) :
    ∃ r, k0_part5 (F := F) (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9
      c v2 v5 v8 v17 v18 v126 =
  (xwaitP (xrS 0) (k0_off11 c) (k0_off11_inb c) <|
  xsendP 3 (k0_off23 c) (k0_off23_inb c) ⟨k0_dev17 c, k0_dev17_lt c⟩ <|
  xwaitP (xrS 1) (k0_off22 c) (k0_off22_inb c) <| pure r) := ⟨_, rfl⟩

theorem part6_eq (c : Dev nD) (v2 v5 v8 v17 v18 v158 w : BitVec 32) :
    ∃ r, k0_part6 (F := F) (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9
      c v2 v5 v8 v17 v18 v158 w =
  (xsendP 5 (k0_off24 c) (k0_off24_inb c) ⟨k0_dev18 c, k0_dev18_lt c⟩ <|
  xwaitP (xrS 2) (k0_off11 c) (k0_off11_inb c) <|
  xwaitP (xrS 4) (k0_off22 c) (k0_off22_inb c) <| pure r) := ⟨_, rfl⟩

theorem part7_eq (c : Dev nD) (v5 v8 v17 v190 v191 : BitVec 32) :
    ∃ r, k0_part7 (F := F) (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9
      c v5 v8 v17 v190 v191 =
  (xwaitP (xrS 3) (k0_off23 c) (k0_off23_inb c) <|
  xwaitP (xrS 5) (k0_off24 c) (k0_off24_inb c) <|
  xwaitP (xsS 0) (k0_off11 c) (k0_off11_inb c) <|
  xwaitP (xsS 1) (k0_off22 c) (k0_off22_inb c) <|
  xwaitP (xsS 2) (k0_off11 c) (k0_off11_inb c) <| pure r) := ⟨_, rfl⟩

/-- The printed body on device `c` is the regrouped one: the parts joined and the device's own number read. -/
theorem body_eq (c : Dev nD) (Q : PUnit → sProp (MT nD τ sig Unit (Elt F) ℕ UU ℕ)) :
    WP c (cc0_body (F := F) (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9) Q = WP c (bodyP c) Q := by
  rw [cc0_body_eq_skeleton, cc0_body_skel]
  simp only [k0_part1_eq_skeleton, k0_part1_skel, bind_assoc, pure_bind]
  refine (wp_deviceId (defs := defs₀ (F := F)) 𝒱₀ (c : Thread nD τ) none Set.univ).trans ?_
  choose r2 e2 using part2_eq (F := F)
  choose r3 e3 using part3_eq (F := F)
  choose r4 e4 using part4_eq (F := F)
  choose r5 e5 using part5_eq (F := F)
  choose r6 e6 using part6_eq (F := F)
  choose r7 e7 using part7_eq (F := F)
  simp only [e2, e3, e4, e5, e6, e7, firstP_bind, addP_bind, sendP_bind, pairP_bind, meetP_bind, lastP_bind, drainP_bind, signalP_bind, barWaitP_bind,
    barWait2P_bind, xsendP_bind, xwaitP_bind, pure_bind]
  rfl

end Cert.LaneSum

end
-- ==== Proof.Held.lean ====
/-
What a device holds before and after the body, and the body between the two, in the form the pipeline around it asks for.
-/
module

public import proofs.«01_k».proof.Proof.Credits
public import proofs.«01_k».proof.Proof.Split
public import proofs.«01_k».proof.Proof.Flat

@[expose] public section

set_option maxRecDepth 100000

noncomputable section

namespace Cert.LaneSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 21 → ℕ)

theorem cfg0_N : cfg0.N = 1 := N_0
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## What a device holds around the body -/

/-- The names of the shared records, and what is a device's own of the protocol: its tokens and positions. -/
def start (c : Dev nD) : sProp 𝕄 :=
  iprop((∃ K, records m ρ K ∗ bigSep Finset.univ (fun i => tok c i) ∗ bigSep Finset.univ (fun k => pos c k)) ∗ crds c)
/-- The lane's four buffers, in halves at any contents. -/
def bufs (c : Dev nD) : sProp 𝕄 := iprop(landC false c ∗ outC false c ∗ landC true c ∗ outC true c)
def Φ₀ (c : Dev nD) : sProp 𝕄 := iprop(start m ρ c ∗ bufs c)
def Φ₁ (c : Dev nD) : sProp 𝕄 := iprop(bufs c ∗ bigSep Finset.univ fun k : Fin 21 => semVal ((c : Thread nD τ), csem k) 0)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outV m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

/-! ## The body -/

/-- Every finished semaphore of a device back at zero. -/
theorem fins_close (c : Dev nD) : iprop(records m ρ K ∗ bigSep Finset.univ fun k => fin m ρ c k)
    ⊢ |={Set.univ}=> bigSep Finset.univ fun k : Fin 21 => (semVal ((c : Thread nD τ), csem k) 0 : sProp 𝕄) :=
  (bigSep_with_persistent (R := records m ρ K) fun k _ => fin_close m ρ K c k).trans (bigSep_fupd _ _)

def bodyPre (c : Dev nD) : sProp 𝕄 :=
  iprop(Φ₀ m ρ c ∗ (dats m ρ 0 c).owesAt () t₀.castSucc
    ∗ (∃ d, owns (c : Thread nD τ) xM fullShare ((dats m ρ 0 c).before (0 : Fin 2) t₀ d))
    ∗ (∃ d, owns (c : Thread nD τ) oM fullShare ((dats m ρ 0 c).before (1 : Fin 2) t₀ d)))
def bodyPost (c : Dev nD) : sProp 𝕄 :=
  iprop(Φ₁ c ∗ (dats m ρ 0 c).owesAt () t₀.succ ∗ owns (c : Thread nD τ) xM fullShare (xstg m ρ c) ∗ owns (c : Thread nD τ) oM fullShare (outV m ρ c))

theorem before_x (c : Dev nD) (d) : (dats m ρ 0 c).before (0 : Fin 2) t₀ d = xstg m ρ c := by
  unfold Pipeline.Dat.before; rw [if_pos (fetch_0 t₀)]; rfl

theorem owed_start (c : Dev nD) : (dats m ρ 0 c).owesAt () t₀.castSucc ⊢ (ow c ∅ : sProp 𝕄) := by
  unfold Pipeline.Dat.owesAt Pipeline.owesWithin ow
  rw [show (dats m ρ 0 c).owed t₀.castSucc = O₀ c from rfl]
  iintro ⟨%W, -, HO⟩
  iexists W; iexact HO
theorem owed_end (c : Dev nD) : (ow c A6 : sProp 𝕄) ⊢ (dats m ρ 0 c).owesAt () t₀.succ := by
  unfold Pipeline.Dat.owesAt Pipeline.owesWithin ow
  rw [owe_none c A6 A6_all, show (dats m ρ 0 c).owed t₀.succ = 0 from rfl]
  iintro ⟨%W, HO⟩
  iexists W
  isplitr; · ipureintro; exact fun _ _ => Or.inl trivial
  iexact HO

/-- The body of device `c`, from what the launch deals it to what the launch takes back. -/
theorem sound_body (c : Dev nD) : bodyPre m ρ c ⊢ WP c (bodyP c) fun _ => bodyPost m ρ c := by
  unfold bodyPre Φ₀ start bufs
  simp only [before_x]
  iintro ⟨⟨⟨⟨%K, #HR, HT, HP⟩, HC⟩, HB⟩, HO, ⟨%d0, Hx⟩, ⟨%d1, Hout⟩⟩
  ihave HO := (owed_start m ρ c) $$ HO
  ihave Hout := (out_split c _) $$ Hout
  iapply (wp_fupd frame (wpE (defs₀ (F := F)) 𝒱₀ (c : Thread nD τ) none) Set.univ (bodyP c) (fun _ => bodyPost m ρ c))
  iapply (bodyP_at m ρ K (Q := fun _ => iprop(|={Set.univ}=> bodyPost m ρ c)) c) $$ [HT HP HC HB HO Hx Hout]
  · isplitr; · iexact HR
    isplitl [HO]; · iexact HO
    isplitl [HT]; · iexact HT
    isplitl [HP]; · iexact HP
    isplitl [HC]; · iexact HC
    isplitl [Hx]; · unfold xO; iexact Hx
    isplitl [HB]; · iexact HB
    iexact Hout
  iintro ⟨HO, HF, Hx, HB, Hout⟩
  imod (fins_close m ρ K c) $$ [HF] with HZ
  · isplitr; · iexact HR
    iexact HF
  ihave HO := (owed_end m ρ c) $$ HO
  ihave Hout := (out_join m ρ c) $$ Hout
  imodintro
  unfold bodyPost Φ₁ bufs xO
  isplitl [HB HZ]
  · isplitl [HB]; · iexact HB
    iexact HZ
  isplitl [HO]; · iexact HO
  isplitl [Hx]; · iexact Hx
  iexact Hout

/-- The body as the pipeline asks for it. -/
theorem body_obligation (c : Dev nD) : Pipeline.BodyObligation (dats (F := F) m ρ 0 c) (defs₀ (F := F)) 𝒱₀ () Set.univ := fun t => by
  rw [fin_N t]
  rw [bigSep_W, bigSep_W]
  show bodyPre m ρ c ⊢ WP c (cc0_body (F := F) (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8 cc0_scratch9) (fun _ => bodyPost m ρ c)
  rw [body_eq]
  exact sound_body m ρ c

end Cert.LaneSum

end
-- ==== Proof.Launch.lean ====
/-
The launch: the protocol's records minted and dealt out, the side conditions of the launch, and the run of the whole
program.
-/
module

public import proofs.«01_k».proof.Proof.Held
public import Idealize.ShloMosaic.Lib.Pipeline.CollectiveSegs

@[expose] public section

set_option maxRecDepth 100000

noncomputable section

namespace Cert.LaneSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Pipeline.Dat.share; split <;> rfl

/-! ## The protocol's records as minted, and dealt out -/

/-- The cells of the protocol, -/
def cells : Finset (GSem nD τ sig) := Finset.univ.map ⟨kcell, kcell_injective⟩

/-- and one token for every due of every device, under the payer's name. -/
def tokOf (ci : Dev nD × Due) : GSem nD τ sig × ℕ × Fin 4 := (kcell (dDev ci.2 ci.1, dKind ci.2), 0, dDuty ci.2)
theorem tokOf_injective : Function.Injective tokOf := by
  rintro ⟨c, i⟩ ⟨c', i'⟩ h
  have h1 := kcell_injective (congrArg Prod.fst h)
  have h2 : dDuty i = dDuty i' := congrArg (fun x : GSem nD τ sig × ℕ × Fin 4 => x.2.2) h
  have hi : i = i' := due_injective i i' (congrArg Prod.snd h1) h2
  subst hi
  have hc : c = c' := dDev_injective i c c' (congrArg Prod.fst h1)
  rw [hc]
def toks : Finset (GSem nD τ sig × ℕ × Fin 4) := Finset.univ.map ⟨tokOf, tokOf_injective⟩

def u₀ : UU :=
  (initOf (Pipeline.cells cfgs cellOf_inj) (Pipeline.launchToks cfgs cellOf_inj), initOf cells toks)

/-- What the launch deals device `c`: the states of its own cells, their positions, and the tokens it pays with. -/
def G (c : Dev nD) : sProp 𝕄 :=
  iprop((bigSep Finset.univ fun k : Fin 21 => roundState ER (sched m ρ) (kcell (c, k)) 0)
    ∗ (bigSep Finset.univ fun k : Fin 21 => reached ER (kcell (c, k)) 0)
    ∗ (bigSep Finset.univ fun k : Fin 21 => pos c k) ∗ bigSep Finset.univ fun i => tok c i)

/-- The same once the records are shared. -/
def G' (c : Dev nD) : sProp 𝕄 :=
  iprop(∃ K : Dev nD × Fin 21 → ℕ, (bigSep Finset.univ fun ck : Dev nD × Fin 21 => cellInv ER (sched m ρ) (K ck) (kcell ck))
    ∗ (bigSep Finset.univ fun ck : Dev nD × Fin 21 => reached ER (kcell ck) 0)
    ∗ (bigSep Finset.univ fun i => tok c i) ∗ bigSep Finset.univ fun k => pos c k)

theorem over_cells (Φ : GSem nD τ sig → sProp 𝕄) :
    bigSep cells Φ = bigSep Finset.univ fun c : Dev nD => bigSep Finset.univ fun k : Fin 21 => Φ (kcell (c, k)) := by
  unfold cells; rw [BI.bigSep_map, bigSep_univ_prod]; rfl
theorem over_toks : bigSep toks (fun x => (dutyTok ER x.1 x.2.1 x.2.2 : sProp 𝕄)) = bigSep Finset.univ fun c : Dev nD => bigSep Finset.univ fun i => tok c i := by
  unfold toks; rw [BI.bigSep_map, bigSep_univ_prod]; rfl

theorem fund : BI.own (ER (initOf cells toks)) ⊢ (|==> bigSep Finset.univ (G m ρ) : sProp 𝕄) := by
  iintro HX
  imod (Rounds.fund ER (sched m ρ) cells toks) $$ HX with ⟨Hst, Hr, Hat, Htok⟩
  imodintro
  ihave Hst' := (Entails.of_eq (over_cells fun g => roundState ER (sched m ρ) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hr']; · iexact Hr'
  isplitl [Hat']; · iexact Hat'
  iexact Htok'

/-! ## The semaphores at zero -/

/-- All 21 semaphores of a device, as the launch counts them: its own twenty and the barrier. -/
theorem sems_eq (c : Dev nD) : (bigSep Finset.univ fun k : Fin 21 => (semVal ((c : Thread nD τ), csem k) 0 : sProp 𝕄))
    = iprop(unscopedSems0 c ∗ Pipeline.ownSems0 (Ix := Unit) (Name := ℕ) (U := UU) (Lvl := ℕ) (Val := Elt F) (τ := τ) osem c) := by
  rw [Pipeline.ownSems0_eq_of_list c osem [0, 1, 2, 3, 4, 5, 6, 7, 8, 9, 10, 11, 12, 13, 14, 15, 16, 17, 18, 19] (by decide) (by decide),
    show (unscopedSems0 c : sProp 𝕄) = semVal ((c : Thread nD τ), .reg barS) 0 from by
      unfold unscopedSems0; rw [bigSep_eq_bigSepL_of_eq [SemLoc.reg barS] (by decide) (by decide)]; rfl,
    bigSep_univ_eq_bigSepL [0, 1, 2, 3, 4, 5, 6, 7, 8, 9, 10, 11, 12, 13, 14, 15, 16, 17, 18, 19, 20] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k : Fin 21 => reached ER (kcell (c, k)) 0)
          ∗ (bigSep Finset.univ fun i => tok c i) ∗ bigSep Finset.univ fun k => pos c k) := by
  unfold G
  iintro ⟨Hos, Hus, Hst, Hr, Hat, Htok⟩
  ihave Hv := (Entails.of_eq (sems_eq (F := F) c).symm) $$ [Hos Hus]
  · isplitl [Hus]; · iexact Hus
    iexact Hos
  imod (show iprop((bigSep Finset.univ fun k : Fin 21 => semVal ((c : Thread nD τ), csem k) 0) ∗ bigSep Finset.univ fun k : Fin 21 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  iexact Hat

/-- The records two conjunctions long, under the names `K`. -/
def shared (K : Dev nD × Fin 21 → ℕ) : sProp 𝕄 :=
  iprop((bigSep Finset.univ fun ck : Dev nD × Fin 21 => cellInv ER (sched m ρ) (K ck) (kcell ck))
    ∗ bigSep Finset.univ fun ck : Dev nD × Fin 21 => reached ER (kcell ck) 0)
instance shared_persistent (K : Dev nD × Fin 21 → ℕ) : BI.Persistent (shared m ρ K) := by unfold shared; infer_instance

theorem share_out (K : Dev nD × Fin 21 → ℕ) (c : Dev nD) :
    iprop(shared m ρ K ∗ (bigSep Finset.univ fun i => tok c i) ∗ bigSep Finset.univ fun k => pos c k) ⊢ G' m ρ c := by
  unfold shared G'
  iintro ⟨⟨#HI, #HR⟩, HT, HP⟩
  iexists K
  isplitr; · iexact HI
  isplitr; · iexact HR
  isplitl [HT]; · iexact HT
  iexact HP

theorem regroup :
    (bigSep Finset.univ fun c : Dev nD => iprop((bigSep Finset.univ fun k => iprop(∃ κ : ℕ, cellInv ER (sched m ρ) κ (kcell (c, k))))
          ∗ (bigSep Finset.univ fun k : Fin 21 => reached ER (kcell (c, k)) 0)
          ∗ (bigSep Finset.univ fun i => tok c i) ∗ bigSep Finset.univ fun k => pos c k) : sProp 𝕄)
      ⊢ bigSep Finset.univ (G' m ρ) := by
  rw [bigSep_sep', bigSep_sep', ← bigSep_univ_prod (fun ck : Dev nD × Fin 21 => iprop(∃ κ : ℕ, cellInv ER (sched m ρ) κ (kcell ck))),
    ← bigSep_univ_prod (fun ck : Dev nD × Fin 21 => (reached ER (kcell ck) 0 : sProp 𝕄))]
  iintro ⟨HI, #HR, HL⟩
  ihave HK := (BI.bigSep_exists_pi Finset.univ (fun (ck : Dev nD × Fin 21) (κ : ℕ) => (cellInv ER (sched m ρ) κ (kcell ck) : sProp 𝕄))) $$ HI
  icases HK with ⟨%K, #HI⟩
  iapply (bigSep_with_persistent (R := shared m ρ K) fun c _ => share_out m ρ K c)
  isplitr
  · unfold shared; isplitl; · iexact HI
    iexact HR
  · iexact HL

/-- The step from every device's part to the shared records, all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' records levs
  iintro ⟨-, #Hlev, Hcr, -, ⟨%K, #HI, #HR, HT, HP⟩⟩
  ihave Hc := (creds (F := F) c) $$ Hcr
  imodintro
  isplitl
  · isplitr [Hc]
    · iexists K
      isplitr
      · isplitr; · iexact HI
        isplitr; · iexact HR
        iexact Hlev
      isplitl [HT]; · iexact HT
      iexact HP
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀ bufs
  iintro ⟨Hs, -, Hr⟩
  isplitl [Hs]; · iexact Hs
  iapply (scratch_split c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁ bufs
  rw [sems_eq]
  iintro ⟨HB, HU, HO⟩
  isplitl [HU]; · iexact HU
  isplitl [HO]; · iexact HO
  iapply (scratch_join c); iexact HB

/-- The staging semaphores lie below everything owed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | n, ht⟩
    · refine mayWait_of (F := F) c _ ∅ fun i h1 _ _ => ?_
      refine lt_of_eq_of_lt ?_ (kLev_pos c i h1)
      fin_cases w <;> fin_cases s <;> rfl
    · rw [show (dats m ρ 0 c).owed ⟨n + 1, ht⟩ = 0 from rfl, MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every fair run from zero semaphores ends, with every device's arrays at `finalA` and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand after the run is what it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.LaneSum

end
-- ==== Proof.Value.lean ====
/-
The values: what the arrays hold after the run, and the sums the kernel makes, read at an index. A lane's four blocks are
added in two chains that meet; addition of ideal values is associative and commutative, so each device ends with the sum over
the four devices of every lane.
-/
module

public import proofs.«01_k».proof.Proof.Launch
public import Idealize.ShloMosaic.Lib.IdealHost
public import Idealize.ShloMosaic.Lib.Pipeline.Value

@[expose] public section

set_option maxRecDepth 100000

noncomputable section

namespace Cert.LaneSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 21 → ℕ)

/-! ## The arrays after the run -/

theorem out_view (c : Dev nD) : (win0_1.blk (0 : Fin 1)).view.read (Elt F) (finalA m ρ c (1 : Fin 2)) = outV m ρ c := by
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- The result array after the run. -/
theorem finalA_out (c : Dev nD) : finalA m ρ c (1 : Fin 2) = outV m ρ c := by
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) _).symm.trans (out_view m ρ c)

/-- The staged block is the device's argument. -/
theorem xstg_eq (c : Dev nD) : xstg m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The run, read at the two arrays of the program. -/
theorem run_arrays :
    θ_run defs (onTc (τ := τ) (main (F := F))) ⟨m, fun _ => 0, ρ⟩ fun r =>
      (∀ c : Dev nD, r.2.mem ((c.tc : Thread nD τ).loc main_v1) = outV m ρ c
        ∧ r.2.mem ((c.tc : Thread nD τ).loc main_arg0) = m ((c.tc : Thread nD τ).loc main_arg0)) ∧ r.2.sem = fun _ => 0 :=
  (θ_run defs _ _).mono (fun _ h => ⟨fun c => ⟨(h.1 c (1 : Fin 2)).trans (finalA_out m ρ c),
    (h.1 c (0 : Fin 2)).trans (finalA_x m ρ c)⟩, h.2⟩) (run_main m ρ)

/-! ## The devices of a lane -/

/-- The devices of `c`'s lane, -/
def lane (c : Dev nD) : Finset (Dev nD) := Finset.univ.filter fun d => ln d = ln c
/-- and those up to `c` along direction `b`. -/
def upTo (b : Bool) (c : Dev nD) : Finset (Dev nD) := Finset.univ.filter fun d => ln d = ln c ∧ dist b d ≤ dist b c

set_option backward.proofsInPublic true in
/-- The device of lane `q` at place `z`. -/
def place (q z : Fin 4) : Dev nD := ⟨(4 * q.val + z.val) % 16, Nat.mod_lt _ (by decide)⟩

theorem upTo_steps (b : Bool) (c : Dev nD) : upTo b c = (Finset.range (dist b c + 1)).image fun i => (pv b)^[i] c := by
  revert b c; decide +kernel
theorem steps_inj (b : Bool) (c : Dev nD) :
    ∀ i ∈ Finset.range (dist b c + 1), ∀ i' ∈ Finset.range (dist b c + 1), (pv b)^[i] c = (pv b)^[i'] c → i = i' := by
  revert b c; decide +kernel
theorem upTo_last (c : Dev nD) (h : ¬ hasN false c) : upTo false c = lane c := by revert c; decide +kernel
theorem upTo_meet (c : Dev nD) (h : hasN false c) :
    Disjoint (upTo false c) (upTo true (nx false c)) ∧ upTo false c ∪ upTo true (nx false c) = lane c := by
  revert c; decide +kernel
theorem lane_places (c : Dev nD) : lane c = Finset.univ.image (place (ln c)) := by revert c; decide +kernel
theorem place_inj (q z z' : Fin 4) (h : place q z = place q z') : z = z' := by revert q z z'; decide +kernel
theorem ln_place (q z : Fin 4) : ln (place q z) = q := by revert q z; decide +kernel

/-! ## The sums -/

section Sums
variable (m : (ℓ : Loc nD τ sig) → Buf (Elt Ideal) ℓ) (ρ : Dev nD → PrngReg)

theorem run_first (b : Bool) (s : Fin 2) (c : Dev nD) (j : S512x256.Idx) : run m ρ b s 0 c j = xq m ρ c s j := by
  show k0_pay1 (xq m ρ c s) j = _
  unfold k0_pay1
  simp only [shapeCast_self]

theorem run_next (b : Bool) (s : Fin 2) (n : ℕ) (c : Dev nD) (j : S512x256.Idx) :
    (run m ρ b s (n + 1) c j : EReal) = (run m ρ b s n (pv b c) j : EReal) + (xq m ρ c s j : EReal) := by
  show k0_pay2 (run m ρ b s n (pv b c)) (xq m ρ c s) j = _
  unfold k0_pay2
  simp only [shapeCast_self]
  rfl

theorem run_sum (b : Bool) (s : Fin 2) (j : S512x256.Idx) (n : ℕ) :
    ∀ c : Dev nD, (run m ρ b s n c j : EReal) = ∑ i ∈ Finset.range (n + 1), (xq m ρ ((pv b)^[i] c) s j : EReal) := by
  induction n with
  | zero => intro c; rw [run_first, Finset.sum_range_one]; rfl
  | succ n ih =>
    intro c
    rw [run_next, ih, Finset.sum_range_succ' _ (n + 1)]
    rfl

theorem chain_sum (b : Bool) (c : Dev nD) (s : Fin 2) (j : S512x256.Idx) :
    (chain m ρ b c s j : EReal) = ∑ d ∈ upTo b c, (xq m ρ d s j : EReal) := by
  rw [upTo_steps, Finset.sum_image fun i hi i' hi' => steps_inj b c i hi i' hi']
  exact run_sum m ρ b s j _ c

theorem tot_lane (c : Dev nD) (s : Fin 2) (j : S512x256.Idx) :
    (tot m ρ c s j : EReal) = ∑ d ∈ lane c, (xq m ρ d s j : EReal) := by
  unfold tot
  split
  · next h =>
    rw [← (upTo_meet c h).2, Finset.sum_union (upTo_meet c h).1, ← chain_sum, ← chain_sum]
    rfl
  · next h => rw [← upTo_last c h, ← chain_sum]

/-- A device's block, its elements as extended reals. -/
def blockOf (c : Dev nD) : S2048x512.Idx → EReal := xstg m ρ c

/-- A lane's reduced block at an index: the four devices' blocks added. -/
theorem tot_sum (c : Dev nD) (s : Fin 2) (j : S512x256.Idx) :
    (tot m ρ c s j : EReal) = ∑ z : Fin 4, blockOf m ρ (place (ln c) z) ((gRect (ln c) s).emb j) := by
  rw [tot_lane, lane_places, Finset.sum_image fun z _ z' _ h => place_inj _ z z' h]
  refine Finset.sum_congr rfl fun z _ => ?_
  unfold xq blockOf
  rw [ln_place]

end Sums

end Cert.LaneSum

end
-- ==== Proof.Agree.lean ====
/-
The kernel's result is the reference's. The reference reshapes the whole array to four blocks of 2048 rows and adds them; the
devices of each lane hold those four blocks, so both are, at every index, the sum over `z < 4` of row `2048 z + i`.
-/
module

public import proofs.«01_k».proof.Proof.Value
public import proofs.«01_k».proof.Proof.Gen.Kernel
public import proofs.«01_k».proof.Proof.Gen.ReferenceIdeal.Run
public import proofs.«01_k».proof.Defs
public import Idealize.ShloMosaic.Lib.Pointwise

@[expose] public section

set_option maxRecDepth 100000

noncomputable section

namespace Cert.LaneSum

open Idealize.ShloMosaic Idealize.ShloMosaic.TcCoe Idealize.SL.Sem
open Cert.ReferenceIdeal (S8192x512 S4x2048x512)
open Cert.KernelIdeal (S2048x512 nD τ sig)

set_option backward.proofsInPublic true in
/-- Where element `i` of block `z` is in the whole array. -/
def wholeIdx (z : Fin 4) (i : S2048x512.Idx) : S8192x512.Idx :=
  ix2 (⟨(2048 * z.val + (i 0).val) % 8192, Nat.mod_lt _ (by decide)⟩ : Fin 8192) (i 1 : Fin 512)

theorem wholeIdx_row (z : Fin 4) (i : S2048x512.Idx) : (wholeIdx z i 0).val = 2048 * z.val + (i 0).val := by
  have h0 : (i 0).val < 2048 := (i 0).isLt
  have hz := z.isLt
  show (2048 * z.val + (i 0).val) % 8192 = _
  omega

/-- The four blocks of the whole array, added. -/
def total (x : S8192x512.Idx → EReal) : S2048x512.Idx → EReal := fun i => ∑ z : Fin 4, x (wholeIdx z i)

/-- The reference's sum at an index. -/
theorem ref_sum (x : S8192x512.Idx → EReal) (i : S2048x512.Idx) :
    (Host.reduceAdd (F := Ideal) (φ := .f32) (shapeCast S4x2048x512 x Cert.ReferenceIdeal.Gen.shapeCasts_S8192x512_S4x2048x512)
      (constant Cert.ReferenceIdeal.S_ .f32 0x00000000#32) Cert.ReferenceIdeal.Gen.reducesTo_S4x2048x512_S2048x512_d0
      Cert.ReferenceIdeal.Gen.h_S_ i : EReal) = total x i := by
  rw [Host.reduceAdd_apply, Ideal.hostReduceAdd_def, Ideal.hostReduceAdd_r3_a0, constant_apply]
  rw [show (FloatOps.ofBits .f32 0x00000000#32 : Ideal .f32) = (0 : EReal) from by
    show Ideal.ofBits .f32 0x00000000#32 = 0
    simp [Ideal.ofBits, Ideal.ieee], zero_add]
  refine Finset.sum_congr rfl fun z _ => shapeCast_apply _ _ _ _ ?_
  rw [rowMajor_val2 _ 512 rfl, rowMajor_val3 _ 1048576 512 rfl rfl, wholeIdx_row]
  show (2048 * z.val + (i 0).val) * 512 + (i 1).val = z.val * 1048576 + (i 0).val * 512 + (i 1).val
  omega

section Agree
variable (m : (ℓ : Loc nD τ sig) → Buf (Elt Ideal) ℓ) (ρ : Dev nD → PrngReg) (x : S8192x512.Idx → EReal)

/-- Each device's block is its place's block of the whole array. -/
theorem blockOf_whole
    (h : ∀ c : Dev nD, m ((c.tc : Thread nD τ).loc Cert.KernelIdeal.main_arg0)
      = Layout.blockN ⟨2, ![2048, 512]⟩ ⟨2, ![8192, 512]⟩ (Layout.meshBlock [2, 2, 4] ![[2], []] c) x)
    (q z : Fin 4) (i : S2048x512.Idx) : blockOf m ρ (place q z) i = x (wholeIdx z i) := by
  have e : blockOf m ρ (place q z)
      = Layout.blockN ⟨2, ![2048, 512]⟩ ⟨2, ![8192, 512]⟩ (Layout.meshBlock [2, 2, 4] ![[2], []] (place q z)) x :=
    (xstg_eq m ρ (place q z)).trans (h (place q z))
  rw [e, Layout.blockN_apply]
  refine congrArg x (funext fun a => Fin.ext ?_)
  have hz : Layout.meshLin [2, 2, 4] (place q z).val [2] = z.val := by
    clear e; revert q z; decide +kernel
  match a with
  | ⟨0, _⟩ =>
    refine Eq.trans ?_ (wholeIdx_row z i).symm
    show Layout.meshLin [2, 2, 4] (place q z).val [2] * 2048 + (i 0).val = _
    rw [hz]; omega
  | ⟨1, _⟩ => show 0 * 512 + (i 1).val = (i 1).val; omega

/-- What every device ends with: the four blocks added. -/
theorem outV_sum
    (h : ∀ c : Dev nD, m ((c.tc : Thread nD τ).loc Cert.KernelIdeal.main_arg0)
      = Layout.blockN ⟨2, ![2048, 512]⟩ ⟨2, ![8192, 512]⟩ (Layout.meshBlock [2, 2, 4] ![[2], []] c) x)
    (c : Dev nD) : outV m ρ c = total x := by
  refine Rect.ext_of_cover (rect8 c) (rect8_cov c) fun t j => ?_
  refine (congrFun (outV_emb m ρ c t) j).trans ((tot_sum m ρ (src8 c t) (hf8 t) j).trans ?_)
  exact Finset.sum_congr rfl fun z _ => blockOf_whole m ρ x h _ z _

end Agree

/-! ## The claims -/

/-- The body tables of the kernel and of its ideal reading are one, -/
theorem bodies_eq {F : FTy → Type} [FloatOps F] :
    @Cert.Kernel.defs₀ F _ Cert.Kernel.Gen.facts = @Cert.KernelIdeal.defs₀ F _ Cert.KernelIdeal.Gen.facts := by
  refine congrArg Defs.onTc (funext fun l => ?_)
  match l with
  | 0 => rfl
/-- and so are the programs' tables. -/
theorem defs_eq {F : FTy → Type} [FloatOps F] :
    @Cert.Kernel.defs F _ Cert.Kernel.Gen.facts = @Cert.KernelIdeal.defs F _ Cert.KernelIdeal.Gen.facts :=
  congrArg (Pipeline.defs _) bodies_eq

theorem frame_kernel : Cert.quiescent_Kernel := by
  intro m ρ _
  rw [defs_eq]
  exact (θ_run Cert.KernelIdeal.defs _ _).mono (fun _ h => ⟨fun c => (h.1 c).2, h.2⟩) (run_arrays (F := Bits) m ρ)

theorem frame_ideal : Cert.quiescent_KernelIdeal := fun m ρ _ =>
  (θ_run Cert.KernelIdeal.defs _ _).mono (fun _ h => ⟨fun c => (h.1 c).2, h.2⟩) (run_arrays (F := Ideal) m ρ)

theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

theorem agrees : Cert.algebraic_KernelIdeal_ReferenceIdeal := by
  intro m ρ m' ρ' _ h
  refine ⟨total (m' (((0 : Dev Cert.ReferenceIdeal.nD).tc : Thread Cert.ReferenceIdeal.nD Cert.ReferenceIdeal.τ).loc
    Cert.ReferenceIdeal.main_arg0)), ?_, ?_⟩
  · exact (θ_run Cert.KernelIdeal.defs _ _).mono
      (fun _ hr c => ⟨(hr.1 c).1.trans (outV_sum m ρ _ h c), (hr.1 c).2⟩) (run_arrays (F := Ideal) m ρ)
  · exact (θ_run Cert.ReferenceIdeal.defs _ _).mono
      (fun _ hr => ⟨(hr 0).1.trans (funext fun i => ref_sum _ i), (hr 0).2⟩) (Cert.ReferenceIdeal.Value.run (F := Ideal) m' ρ')

end Cert.LaneSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.LaneSum.frame_kernel, Cert.LaneSum.frame_ideal, Cert.LaneSum.frame_reference, trivial, Cert.LaneSum.agrees⟩

end Cert.Proof

end
